-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_v445) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_cst : FVec F S_ .f32 := constant S_ .f32 0x7F800000#32
  let main_v0 : FVec F S4096x4096 .f32 := broadcastInDim S4096x4096 ![] bcast_S_S4096x4096 main_cst
  let main_v1 : IVec S4096x4096 1 := cmpf .olt main_arg0 main_v0
  let main_c : IVec S_ 1 := constantI S_ 1 1#1
  let main_v2 : IVec S_ 1 := (fun x v => Host.reduce IntOp.andi x v reducesTo_S4096x4096_S_d0_1 h_S_) main_v1 main_c
  let main_cst_0 : FVec F S_ .f32 := constant S_ .f32 0x7F800000#32
  let main_v3 : FVec F S4096x4096 .f32 := broadcastInDim S4096x4096 ![] bcast_S_S4096x4096 main_cst_0
  let main_v4 : IVec S4096x4096 1 := cmpf .olt main_arg1 main_v3
  let main_c_1 : IVec S_ 1 := constantI S_ 1 1#1
  let main_v5 : IVec S_ 1 := (fun x v => Host.reduce IntOp.andi x v reducesTo_S4096x4096_S_d0_1 h_S_) main_v4 main_c_1
  let main_v6 : IVec S_ 1 := andi main_v2 main_v5
  main_v6
-- ==== Kernel.lean ====
abbrev S4096x4096 : Shape := ⟨2, ![4096, 4096]⟩
abbrev S2x256x4096 : Shape := ⟨3, ![2, 256, 4096]⟩
abbrev S16x4096 : Shape := ⟨2, ![16, 4096]⟩
abbrev S4096x1 : Shape := ⟨2, ![4096, 1]⟩
abbrev S2 : Shape := ⟨1, ![2]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S16x2048 : Shape := ⟨2, ![16, 2048]⟩
abbrev S16x1024 : Shape := ⟨2, ![16, 1024]⟩
abbrev S16x512 : Shape := ⟨2, ![16, 512]⟩
abbrev S16x256 : Shape := ⟨2, ![16, 256]⟩
abbrev S16 : Shape := ⟨1, ![16]⟩
abbrev S16x1 : Shape := ⟨2, ![16, 1]⟩
abbrev S8x2048 : Shape := ⟨2, ![8, 2048]⟩
abbrev S2048 : Shape := ⟨1, ![2048]⟩
abbrev S1x2048 : Shape := ⟨2, ![1, 2048]⟩
abbrev S1x4096 : Shape := ⟨2, ![1, 4096]⟩
abbrev S1x16x4096 : Shape := ⟨3, ![1, 16, 4096]⟩

abbrev nBuf : Space → Nat
  | .hbm => 4
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .local _ .vmem, ⟨0, _⟩ => ⟨S4096x4096, .bf16⟩
  | .local _ .vmem, ⟨1, _⟩ => ⟨S2x256x4096, .f32⟩
  | .local _ .vmem, ⟨2, _⟩ => ⟨S16x4096, .bf16⟩
  | .local _ .vmem, ⟨3, _⟩ => ⟨S16x4096, .f32⟩
  | .local _ .vmem, ⟨4, _⟩ => ⟨S4096x1, .bf16⟩
  | .local _ .vmem, ⟨5, _⟩ => ⟨S4096x4096, .bf16⟩
  | .local _ .vmem, ⟨6, _⟩ => ⟨S2x256x4096, .f32⟩
  | .local _ .vmem, ⟨7, _⟩ => ⟨S16x4096, .bf16⟩
  | .local _ .vmem, ⟨8, _⟩ => ⟨S16x4096, .f32⟩
  | .local _ .vmem, ⟨9, _⟩ => ⟨S4096x1, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc1_scratch0 : Ref sig .tc := ⟨.vmem, 5, rfl⟩
abbrev cc1_scratch1 : Ref sig .tc := ⟨.vmem, 6, rfl⟩
abbrev cc1_scratch2 : Ref sig .tc := ⟨.vmem, 7, rfl⟩
abbrev cc1_scratch3 : Ref sig .tc := ⟨.vmem, 8, rfl⟩
abbrev cc1_scratch4 : Ref sig .tc := ⟨.vmem, 9, rfl⟩

abbrev nD : Nat := 1
abbrev τ : Topo := Topo.v7x

variable {F : FTy → Type} [FloatOps F]

abbrev grid0 : Pipeline.Grid := .none

@[reducible] def k0_t1_loop : Scf.Loop 32 :=
  let c0_i32_5 : BitVec 32 := 0#32
  let c16_i32 : BitVec 32 := 16#32
  let v5 : BitVec 32 := Scalar.addi c0_i32_5 c16_i32
  let c1_i32 : BitVec 32 := 1#32
  ⟨c0_i32_5, v5, c1_i32⟩
def k0_cond1 (k0_t1 : Fin k0_t1_loop.trips) : BitVec 1 :=
  let c0_i32_5 : BitVec 32 := 0#32
  let c1_i32 : BitVec 32 := 1#32
  let arg9 : BitVec 32 := Scf.iv c0_i32_5 c1_i32 k0_t1
  let c1_i32_24 : BitVec 32 := 1#32
  let v23 : BitVec 32 := Scalar.addi arg9 c1_i32_24
  let c16_i32_25 : BitVec 32 := 16#32
  let v24 : BitVec 1 := Scalar.cmpi .slt v23 c16_i32_25
  let v25 : BitVec 32 := Scalar.extui v24
  let c0_i32_26 : BitVec 32 := 0#32
  let v26 : BitVec 1 := Scalar.cmpi .ne v25 c0_i32_26
  v26

def k0_off1 (k0_t1 : Fin k0_t1_loop.trips) : Fin 1 → Nat :=
  let c1_i32_35 : BitVec 32 := 1#32
  let c0_i32_5 : BitVec 32 := 0#32
  let c1_i32 : BitVec 32 := 1#32
  let arg9 : BitVec 32 := Scf.iv c0_i32_5 c1_i32 k0_t1
  let c2_i32 : BitVec 32 := 2#32
  let v22 : BitVec 32 := Scalar.remsi arg9 c2_i32
  let v44 : BitVec 32 := Scalar.subi c1_i32_35 v22
  ![v44.toNat]
def k0_off2 (k0_t1 : Fin k0_t1_loop.trips) : Fin 3 → Nat :=
  let c1_i32_35 : BitVec 32 := 1#32
  let c0_i32_5 : BitVec 32 := 0#32
  let c1_i32 : BitVec 32 := 1#32
  let arg9 : BitVec 32 := Scf.iv c0_i32_5 c1_i32 k0_t1
  let c2_i32 : BitVec 32 := 2#32
  let v22 : BitVec 32 := Scalar.remsi arg9 c2_i32
  let v44 : BitVec 32 := Scalar.subi c1_i32_35 v22
  let c0_i32_37 : BitVec 32 := 0#32
  let c0_i32_38 : BitVec 32 := 0#32
  ![v44.toNat, 0, 0]
def k0_off3 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let c1_i32_34 : BitVec 32 := 1#32
  let v43 : BitVec 32 := Scalar.addi arg9 c1_i32_34
  let c256_i32_36 : BitVec 32 := 256#32
  let v45 : BitVec 32 := Scalar.muli v43 c256_i32_36
  let c0_i32_39 : BitVec 32 := 0#32
  ![v45.toNat, 0]
def k0_off4 (k0_t1 : Fin k0_t1_loop.trips) : Fin 1 → Nat :=
  let c0_i32_5 : BitVec 32 := 0#32
  let c1_i32 : BitVec 32 := 1#32
  let arg9 : BitVec 32 := Scf.iv c0_i32_5 c1_i32 k0_t1
  let c2_i32 : BitVec 32 := 2#32
  let v22 : BitVec 32 := Scalar.remsi arg9 c2_i32
  ![v22.toNat]
def k0_off5 (k0_t1 : Fin k0_t1_loop.trips) : Fin 3 → Nat :=
  let c0_i32_5 : BitVec 32 := 0#32
  let c1_i32 : BitVec 32 := 1#32
  let arg9 : BitVec 32 := Scf.iv c0_i32_5 c1_i32 k0_t1
  let c2_i32 : BitVec 32 := 2#32
  let v22 : BitVec 32 := Scalar.remsi arg9 c2_i32
  let c0_i32_27 : BitVec 32 := 0#32
  let c0_i32_28 : BitVec 32 := 0#32
  ![v22.toNat, 0, 0]
def k0_off6 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let c256_i32 : BitVec 32 := 256#32
  let v27 : BitVec 32 := Scalar.muli arg9 c256_i32
  let c0_i32_29 : BitVec 32 := 0#32
  ![v27.toNat, 0]
def k0_off7 (k0_t1 : Fin k0_t1_loop.trips) : Fin 3 → Nat :=
  let c0_i32_5 : BitVec 32 := 0#32
  let c1_i32 : BitVec 32 := 1#32
  let arg9 : BitVec 32 := Scf.iv c0_i32_5 c1_i32 k0_t1
  let c2_i32 : BitVec 32 := 2#32
  let v22 : BitVec 32 := Scalar.remsi arg9 c2_i32
  let v33 : Index := Scalar.indexCast v22
  let c0_30 : Index := 0#32
  let c0_31 : Index := 0#32
  ![v33.toNat, 0, 0]
def k0_off8 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let c256_i32_32 : BitVec 32 := 256#32
  let v38 : BitVec 32 := Scalar.muli arg9 c256_i32_32
  let v39 : Index := Scalar.indexCast v38
  let c0_33 : Index := 0#32
  ![v39.toNat, 0]
@[reducible] def k0_t2_loop : Scf.Loop 32 :=
  let c0_i32_8 : BitVec 32 := 0#32
  let c10_i32 : BitVec 32 := 10#32
  let v10 : BitVec 32 := Scalar.addi c0_i32_8 c10_i32
  let c1_i32_9 : BitVec 32 := 1#32
  ⟨c0_i32_8, v10, c1_i32_9⟩
@[reducible] def k0_t3_loop : Scf.Loop 32 :=
  let c0_i32_24 : BitVec 32 := 0#32
  let c256_i32 : BitVec 32 := 256#32
  let v22 : BitVec 32 := Scalar.addi c0_i32_24 c256_i32
  let c1_i32_25 : BitVec 32 := 1#32
  ⟨c0_i32_24, v22, c1_i32_25⟩
def k0_off9 (k0_t3 : Fin k0_t3_loop.trips) : Fin 2 → Nat :=
  let c0_i32_24 : BitVec 32 := 0#32
  let c1_i32_25 : BitVec 32 := 1#32
  let arg10 : BitVec 32 := Scf.iv c0_i32_24 c1_i32_25 k0_t3
  let c16_i32_43 : BitVec 32 := 16#32
  let v47 : BitVec 32 := Scalar.muli arg10 c16_i32_43
  let v49 : Index := Scalar.indexCast v47
  let c0_46 : Index := 0#32
  ![v49.toNat, 0]
def k0_off10 (k0_t3 : Fin k0_t3_loop.trips) : Fin 2 → Nat :=
  let c0_i32_24 : BitVec 32 := 0#32
  let c1_i32_25 : BitVec 32 := 1#32
  let arg10 : BitVec 32 := Scf.iv c0_i32_24 c1_i32_25 k0_t3
  let c16_i32_43 : BitVec 32 := 16#32
  let v47 : BitVec 32 := Scalar.muli arg10 c16_i32_43
  let v63 : Index := Scalar.indexCast v47
  let c2048 : Index := 2048#32
  ![v63.toNat, 2048]
def k0_off11 (k0_t3 : Fin k0_t3_loop.trips) : Fin 2 → Nat :=
  let c0_i32_24 : BitVec 32 := 0#32
  let c1_i32_25 : BitVec 32 := 1#32
  let arg10 : BitVec 32 := Scf.iv c0_i32_24 c1_i32_25 k0_t3
  let c16_i32_49 : BitVec 32 := 16#32
  let v83 : BitVec 32 := Scalar.muli arg10 c16_i32_49
  let v84 : Index := Scalar.indexCast v83
  let c0_50 : Index := 0#32
  ![v84.toNat, 0]
@[reducible] def k0_t4_loop : Scf.Loop 32 :=
  let c0_i32_28 : BitVec 32 := 0#32
  let c64_i32 : BitVec 32 := 64#32
  let v24 : BitVec 32 := Scalar.addi c0_i32_28 c64_i32
  let c1_i32_29 : BitVec 32 := 1#32
  ⟨c0_i32_28, v24, c1_i32_29⟩
def k0_off12 (k0_t4 : Fin k0_t4_loop.trips) : Fin 2 → Nat :=
  let c4_i32 : BitVec 32 := 4#32
  let c0_i32_28 : BitVec 32 := 0#32
  let c1_i32_29 : BitVec 32 := 1#32
  let arg10 : BitVec 32 := Scf.iv c0_i32_28 c1_i32_29 k0_t4
  let v47 : BitVec 32 := Scalar.muli c4_i32 arg10
  let c16_i32_43 : BitVec 32 := 16#32
  let v48 : BitVec 32 := Scalar.muli v47 c16_i32_43
  let v58 : Index := Scalar.indexCast v48
  let c0_51 : Index := 0#32
  ![v58.toNat, 0]
def k0_off13 (k0_t4 : Fin k0_t4_loop.trips) : Fin 2 → Nat :=
  let c4_i32 : BitVec 32 := 4#32
  let c0_i32_28 : BitVec 32 := 0#32
  let c1_i32_29 : BitVec 32 := 1#32
  let arg10 : BitVec 32 := Scf.iv c0_i32_28 c1_i32_29 k0_t4
  let v47 : BitVec 32 := Scalar.muli c4_i32 arg10
  let c16_i32_43 : BitVec 32 := 16#32
  let v48 : BitVec 32 := Scalar.muli v47 c16_i32_43
  let v60 : Index := Scalar.indexCast v48
  let c0_52 : Index := 0#32
  ![v60.toNat, 0]
def k0_off14 (k0_t4 : Fin k0_t4_loop.trips) (c1_i32_45 : BitVec 32) : Fin 2 → Nat :=
  let c4_i32_44 : BitVec 32 := 4#32
  let c0_i32_28 : BitVec 32 := 0#32
  let c1_i32_29 : BitVec 32 := 1#32
  let arg10 : BitVec 32 := Scf.iv c0_i32_28 c1_i32_29 k0_t4
  let v49 : BitVec 32 := Scalar.muli c4_i32_44 arg10
  let v50 : BitVec 32 := Scalar.addi v49 c1_i32_45
  let c16_i32_46 : BitVec 32 := 16#32
  let v51 : BitVec 32 := Scalar.muli v50 c16_i32_46
  let v64 : Index := Scalar.indexCast v51
  let c0_53 : Index := 0#32
  ![v64.toNat, 0]
def k0_off15 (k0_t4 : Fin k0_t4_loop.trips) (c1_i32_45 : BitVec 32) : Fin 2 → Nat :=
  let c4_i32_44 : BitVec 32 := 4#32
  let c0_i32_28 : BitVec 32 := 0#32
  let c1_i32_29 : BitVec 32 := 1#32
  let arg10 : BitVec 32 := Scf.iv c0_i32_28 c1_i32_29 k0_t4
  let v49 : BitVec 32 := Scalar.muli c4_i32_44 arg10
  let v50 : BitVec 32 := Scalar.addi v49 c1_i32_45
  let c16_i32_46 : BitVec 32 := 16#32
  let v51 : BitVec 32 := Scalar.muli v50 c16_i32_46
  let v66 : Index := Scalar.indexCast v51
  let c0_54 : Index := 0#32
  ![v66.toNat, 0]
@[reducible] def k0_t5_loop : Scf.Loop 32 :=
  let c0_i32_33 : BitVec 32 := 0#32
  let c64_i32_34 : BitVec 32 := 64#32
  let v29 : BitVec 32 := Scalar.addi c0_i32_33 c64_i32_34
  let c1_i32_35 : BitVec 32 := 1#32
  ⟨c0_i32_33, v29, c1_i32_35⟩
def k0_off16 (k0_t5 : Fin k0_t5_loop.trips) : Fin 2 → Nat :=
  let c4_i32 : BitVec 32 := 4#32
  let c0_i32_33 : BitVec 32 := 0#32
  let c1_i32_35 : BitVec 32 := 1#32
  let arg10 : BitVec 32 := Scf.iv c0_i32_33 c1_i32_35 k0_t5
  let v47 : BitVec 32 := Scalar.muli c4_i32 arg10
  let c16_i32_43 : BitVec 32 := 16#32
  let v48 : BitVec 32 := Scalar.muli v47 c16_i32_43
  let v58 : Index := Scalar.indexCast v48
  let c2048 : Index := 2048#32
  ![v58.toNat, 2048]
def k0_off17 (k0_t5 : Fin k0_t5_loop.trips) : Fin 2 → Nat :=
  let c4_i32 : BitVec 32 := 4#32
  let c0_i32_33 : BitVec 32 := 0#32
  let c1_i32_35 : BitVec 32 := 1#32
  let arg10 : BitVec 32 := Scf.iv c0_i32_33 c1_i32_35 k0_t5
  let v47 : BitVec 32 := Scalar.muli c4_i32 arg10
  let c16_i32_43 : BitVec 32 := 16#32
  let v48 : BitVec 32 := Scalar.muli v47 c16_i32_43
  let v60 : Index := Scalar.indexCast v48
  let c0_51 : Index := 0#32
  ![v60.toNat, 0]
def k0_off18 (k0_t5 : Fin k0_t5_loop.trips) (c1_i32_45 : BitVec 32) : Fin 2 → Nat :=
  let c4_i32_44 : BitVec 32 := 4#32
  let c0_i32_33 : BitVec 32 := 0#32
  let c1_i32_35 : BitVec 32 := 1#32
  let arg10 : BitVec 32 := Scf.iv c0_i32_33 c1_i32_35 k0_t5
  let v49 : BitVec 32 := Scalar.muli c4_i32_44 arg10
  let v50 : BitVec 32 := Scalar.addi v49 c1_i32_45
  let c16_i32_46 : BitVec 32 := 16#32
  let v51 : BitVec 32 := Scalar.muli v50 c16_i32_46
  let v64 : Index := Scalar.indexCast v51
  let c2048_52 : Index := 2048#32
  ![v64.toNat, 2048]
def k0_off19 (k0_t5 : Fin k0_t5_loop.trips) (c1_i32_45 : BitVec 32) : Fin 2 → Nat :=
  let c4_i32_44 : BitVec 32 := 4#32
  let c0_i32_33 : BitVec 32 := 0#32
  let c1_i32_35 : BitVec 32 := 1#32
  let arg10 : BitVec 32 := Scf.iv c0_i32_33 c1_i32_35 k0_t5
  let v49 : BitVec 32 := Scalar.muli c4_i32_44 arg10
  let v50 : BitVec 32 := Scalar.addi v49 c1_i32_45
  let c16_i32_46 : BitVec 32 := 16#32
  let v51 : BitVec 32 := Scalar.muli v50 c16_i32_46
  let v66 : Index := Scalar.indexCast v51
  let c0_53 : Index := 0#32
  ![v66.toNat, 0]
@[reducible] def k0_t6_loop : Scf.Loop 32 :=
  let c0_i32_10 : BitVec 32 := 0#32
  let c16_i32_11 : BitVec 32 := 16#32
  let v11 : BitVec 32 := Scalar.addi c0_i32_10 c16_i32_11
  let c1_i32_12 : BitVec 32 := 1#32
  ⟨c0_i32_10, v11, c1_i32_12⟩
def k0_cond2 (k0_t6 : Fin k0_t6_loop.trips) : BitVec 1 :=
  let c0_i32_10 : BitVec 32 := 0#32
  let c1_i32_12 : BitVec 32 := 1#32
  let arg9 : BitVec 32 := Scf.iv c0_i32_10 c1_i32_12 k0_t6
  let c2_i32_24 : BitVec 32 := 2#32
  let v23 : BitVec 1 := Scalar.cmpi .sge arg9 c2_i32_24
  let v24 : BitVec 32 := Scalar.extui v23
  let c0_i32_25 : BitVec 32 := 0#32
  let v25 : BitVec 1 := Scalar.cmpi .ne v24 c0_i32_25
  v25

def k0_off20 (k0_t6 : Fin k0_t6_loop.trips) : Fin 1 → Nat :=
  let c0_i32_10 : BitVec 32 := 0#32
  let c1_i32_12 : BitVec 32 := 1#32
  let arg9 : BitVec 32 := Scf.iv c0_i32_10 c1_i32_12 k0_t6
  let c2_i32 : BitVec 32 := 2#32
  let v22 : BitVec 32 := Scalar.remsi arg9 c2_i32
  ![v22.toNat]
def k0_off21 (k0_t6 : Fin k0_t6_loop.trips) : Fin 2 → Nat :=
  let c0_i32_10 : BitVec 32 := 0#32
  let c1_i32_12 : BitVec 32 := 1#32
  let arg9 : BitVec 32 := Scf.iv c0_i32_10 c1_i32_12 k0_t6
  let c2_i32_162 : BitVec 32 := 2#32
  let v320 : BitVec 32 := Scalar.subi arg9 c2_i32_162
  let c256_i32_163 : BitVec 32 := 256#32
  let v321 : BitVec 32 := Scalar.muli v320 c256_i32_163
  let c0_i32_164 : BitVec 32 := 0#32
  ![v321.toNat, 0]
def k0_off22 (k0_t6 : Fin k0_t6_loop.trips) : Fin 3 → Nat :=
  let c0_i32_10 : BitVec 32 := 0#32
  let c1_i32_12 : BitVec 32 := 1#32
  let arg9 : BitVec 32 := Scf.iv c0_i32_10 c1_i32_12 k0_t6
  let c2_i32 : BitVec 32 := 2#32
  let v22 : BitVec 32 := Scalar.remsi arg9 c2_i32
  let c0_i32_165 : BitVec 32 := 0#32
  let c0_i32_166 : BitVec 32 := 0#32
  ![v22.toNat, 0, 0]
def k0_off23 (k0_t6 : Fin k0_t6_loop.trips) (c0_i32_26 : BitVec 32) : Fin 2 → Nat :=
  let c0_i32_10 : BitVec 32 := 0#32
  let c1_i32_12 : BitVec 32 := 1#32
  let arg9 : BitVec 32 := Scf.iv c0_i32_10 c1_i32_12 k0_t6
  let c256_i32 : BitVec 32 := 256#32
  let v26 : BitVec 32 := Scalar.muli arg9 c256_i32
  let c16_i32_27 : BitVec 32 := 16#32
  let v27 : BitVec 32 := Scalar.muli c0_i32_26 c16_i32_27
  let v28 : BitVec 32 := Scalar.addi v26 v27
  let v29 : Index := Scalar.indexCast v28
  let c0_28 : Index := 0#32
  ![v29.toNat, 0]
def k0_off24 (k0_t6 : Fin k0_t6_loop.trips) (c0_i32_26 : BitVec 32) : Fin 2 → Nat :=
  let c0_i32_10 : BitVec 32 := 0#32
  let c1_i32_12 : BitVec 32 := 1#32
  let arg9 : BitVec 32 := Scf.iv c0_i32_10 c1_i32_12 k0_t6
  let c256_i32 : BitVec 32 := 256#32
  let v26 : BitVec 32 := Scalar.muli arg9 c256_i32
  let c16_i32_27 : BitVec 32 := 16#32
  let v27 : BitVec 32 := Scalar.muli c0_i32_26 c16_i32_27
  let v28 : BitVec 32 := Scalar.addi v26 v27
  let v31 : Index := Scalar.indexCast v28
  let c0_29 : Index := 0#32
  ![v31.toNat, 0]
def k0_off25 (k0_t6 : Fin k0_t6_loop.trips) (c0_i32_26 : BitVec 32) : Fin 3 → Nat :=
  let c0_i32_10 : BitVec 32 := 0#32
  let c1_i32_12 : BitVec 32 := 1#32
  let arg9 : BitVec 32 := Scf.iv c0_i32_10 c1_i32_12 k0_t6
  let c2_i32 : BitVec 32 := 2#32
  let v22 : BitVec 32 := Scalar.remsi arg9 c2_i32
  let v39 : Index := Scalar.indexCast v22
  let c16_i32_32 : BitVec 32 := 16#32
  let v38 : BitVec 32 := Scalar.muli c0_i32_26 c16_i32_32
  let v40 : Index := Scalar.indexCast v38
  let c0_33 : Index := 0#32
  ![v39.toNat, v40.toNat, 0]
def k0_off26 (k0_t6 : Fin k0_t6_loop.trips) : Fin 1 → Nat :=
  let c0_i32_10 : BitVec 32 := 0#32
  let c1_i32_12 : BitVec 32 := 1#32
  let arg9 : BitVec 32 := Scf.iv c0_i32_10 c1_i32_12 k0_t6
  let c2_i32 : BitVec 32 := 2#32
  let v22 : BitVec 32 := Scalar.remsi arg9 c2_i32
  ![v22.toNat]
def k0_off27 (k0_t6 : Fin k0_t6_loop.trips) : Fin 2 → Nat :=
  let c0_i32_10 : BitVec 32 := 0#32
  let c1_i32_12 : BitVec 32 := 1#32
  let arg9 : BitVec 32 := Scf.iv c0_i32_10 c1_i32_12 k0_t6
  let c256_i32_158 : BitVec 32 := 256#32
  let v314 : BitVec 32 := Scalar.muli arg9 c256_i32_158
  let c0_i32_159 : BitVec 32 := 0#32
  ![v314.toNat, 0]
def k0_off28 (k0_t6 : Fin k0_t6_loop.trips) : Fin 3 → Nat :=
  let c0_i32_10 : BitVec 32 := 0#32
  let c1_i32_12 : BitVec 32 := 1#32
  let arg9 : BitVec 32 := Scf.iv c0_i32_10 c1_i32_12 k0_t6
  let c2_i32 : BitVec 32 := 2#32
  let v22 : BitVec 32 := Scalar.remsi arg9 c2_i32
  let c0_i32_160 : BitVec 32 := 0#32
  let c0_i32_161 : BitVec 32 := 0#32
  ![v22.toNat, 0, 0]
abbrev grid1 : Pipeline.Grid := .none

@[reducible] def k1_t1_loop : Scf.Loop 32 :=
  let c0_i32_5 : BitVec 32 := 0#32
  let c16_i32 : BitVec 32 := 16#32
  let v5 : BitVec 32 := Scalar.addi c0_i32_5 c16_i32
  let c1_i32 : BitVec 32 := 1#32
  ⟨c0_i32_5, v5, c1_i32⟩
def k1_cond1 (k1_t1 : Fin k1_t1_loop.trips) : BitVec 1 :=
  let c0_i32_5 : BitVec 32 := 0#32
  let c1_i32 : BitVec 32 := 1#32
  let arg9 : BitVec 32 := Scf.iv c0_i32_5 c1_i32 k1_t1
  let c1_i32_24 : BitVec 32 := 1#32
  let v23 : BitVec 32 := Scalar.addi arg9 c1_i32_24
  let c16_i32_25 : BitVec 32 := 16#32
  let v24 : BitVec 1 := Scalar.cmpi .slt v23 c16_i32_25
  let v25 : BitVec 32 := Scalar.extui v24
  let c0_i32_26 : BitVec 32 := 0#32
  let v26 : BitVec 1 := Scalar.cmpi .ne v25 c0_i32_26
  v26

def k1_off1 (k1_t1 : Fin k1_t1_loop.trips) : Fin 1 → Nat :=
  let c1_i32_35 : BitVec 32 := 1#32
  let c0_i32_5 : BitVec 32 := 0#32
  let c1_i32 : BitVec 32 := 1#32
  let arg9 : BitVec 32 := Scf.iv c0_i32_5 c1_i32 k1_t1
  let c2_i32 : BitVec 32 := 2#32
  let v22 : BitVec 32 := Scalar.remsi arg9 c2_i32
  let v44 : BitVec 32 := Scalar.subi c1_i32_35 v22
  ![v44.toNat]
def k1_off2 (k1_t1 : Fin k1_t1_loop.trips) : Fin 3 → Nat :=
  let c1_i32_35 : BitVec 32 := 1#32
  let c0_i32_5 : BitVec 32 := 0#32
  let c1_i32 : BitVec 32 := 1#32
  let arg9 : BitVec 32 := Scf.iv c0_i32_5 c1_i32 k1_t1
  let c2_i32 : BitVec 32 := 2#32
  let v22 : BitVec 32 := Scalar.remsi arg9 c2_i32
  let v44 : BitVec 32 := Scalar.subi c1_i32_35 v22
  let c0_i32_37 : BitVec 32 := 0#32
  let c0_i32_38 : BitVec 32 := 0#32
  ![v44.toNat, 0, 0]
def k1_off3 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let c1_i32_34 : BitVec 32 := 1#32
  let v43 : BitVec 32 := Scalar.addi arg9 c1_i32_34
  let c256_i32_36 : BitVec 32 := 256#32
  let v45 : BitVec 32 := Scalar.muli v43 c256_i32_36
  let c0_i32_39 : BitVec 32 := 0#32
  ![v45.toNat, 0]
def k1_off4 (k1_t1 : Fin k1_t1_loop.trips) : Fin 1 → Nat :=
  let c0_i32_5 : BitVec 32 := 0#32
  let c1_i32 : BitVec 32 := 1#32
  let arg9 : BitVec 32 := Scf.iv c0_i32_5 c1_i32 k1_t1
  let c2_i32 : BitVec 32 := 2#32
  let v22 : BitVec 32 := Scalar.remsi arg9 c2_i32
  ![v22.toNat]
def k1_off5 (k1_t1 : Fin k1_t1_loop.trips) : Fin 3 → Nat :=
  let c0_i32_5 : BitVec 32 := 0#32
  let c1_i32 : BitVec 32 := 1#32
  let arg9 : BitVec 32 := Scf.iv c0_i32_5 c1_i32 k1_t1
  let c2_i32 : BitVec 32 := 2#32
  let v22 : BitVec 32 := Scalar.remsi arg9 c2_i32
  let c0_i32_27 : BitVec 32 := 0#32
  let c0_i32_28 : BitVec 32 := 0#32
  ![v22.toNat, 0, 0]
def k1_off6 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let c256_i32 : BitVec 32 := 256#32
  let v27 : BitVec 32 := Scalar.muli arg9 c256_i32
  let c0_i32_29 : BitVec 32 := 0#32
  ![v27.toNat, 0]
def k1_off7 (k1_t1 : Fin k1_t1_loop.trips) : Fin 3 → Nat :=
  let c0_i32_5 : BitVec 32 := 0#32
  let c1_i32 : BitVec 32 := 1#32
  let arg9 : BitVec 32 := Scf.iv c0_i32_5 c1_i32 k1_t1
  let c2_i32 : BitVec 32 := 2#32
  let v22 : BitVec 32 := Scalar.remsi arg9 c2_i32
  let v33 : Index := Scalar.indexCast v22
  let c0_30 : Index := 0#32
  let c0_31 : Index := 0#32
  ![v33.toNat, 0, 0]
def k1_off8 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let c256_i32_32 : BitVec 32 := 256#32
  let v38 : BitVec 32 := Scalar.muli arg9 c256_i32_32
  let v39 : Index := Scalar.indexCast v38
  let c0_33 : Index := 0#32
  ![v39.toNat, 0]
@[reducible] def k1_t2_loop : Scf.Loop 32 :=
  let c0_i32_8 : BitVec 32 := 0#32
  let c10_i32 : BitVec 32 := 10#32
  let v10 : BitVec 32 := Scalar.addi c0_i32_8 c10_i32
  let c1_i32_9 : BitVec 32 := 1#32
  ⟨c0_i32_8, v10, c1_i32_9⟩
@[reducible] def k1_t3_loop : Scf.Loop 32 :=
  let c0_i32_24 : BitVec 32 := 0#32
  let c256_i32 : BitVec 32 := 256#32
  let v22 : BitVec 32 := Scalar.addi c0_i32_24 c256_i32
  let c1_i32_25 : BitVec 32 := 1#32
  ⟨c0_i32_24, v22, c1_i32_25⟩
def k1_off9 (k1_t3 : Fin k1_t3_loop.trips) : Fin 2 → Nat :=
  let c0_i32_24 : BitVec 32 := 0#32
  let c1_i32_25 : BitVec 32 := 1#32
  let arg10 : BitVec 32 := Scf.iv c0_i32_24 c1_i32_25 k1_t3
  let c16_i32_43 : BitVec 32 := 16#32
  let v47 : BitVec 32 := Scalar.muli arg10 c16_i32_43
  let v49 : Index := Scalar.indexCast v47
  let c0_46 : Index := 0#32
  ![v49.toNat, 0]
def k1_off10 (k1_t3 : Fin k1_t3_loop.trips) : Fin 2 → Nat :=
  let c0_i32_24 : BitVec 32 := 0#32
  let c1_i32_25 : BitVec 32 := 1#32
  let arg10 : BitVec 32 := Scf.iv c0_i32_24 c1_i32_25 k1_t3
  let c16_i32_43 : BitVec 32 := 16#32
  let v47 : BitVec 32 := Scalar.muli arg10 c16_i32_43
  let v63 : Index := Scalar.indexCast v47
  let c2048 : Index := 2048#32
  ![v63.toNat, 2048]
def k1_off11 (k1_t3 : Fin k1_t3_loop.trips) : Fin 2 → Nat :=
  let c0_i32_24 : BitVec 32 := 0#32
  let c1_i32_25 : BitVec 32 := 1#32
  let arg10 : BitVec 32 := Scf.iv c0_i32_24 c1_i32_25 k1_t3
  let c16_i32_49 : BitVec 32 := 16#32
  let v83 : BitVec 32 := Scalar.muli arg10 c16_i32_49
  let v84 : Index := Scalar.indexCast v83
  let c0_50 : Index := 0#32
  ![v84.toNat, 0]
@[reducible] def k1_t4_loop : Scf.Loop 32 :=
  let c0_i32_28 : BitVec 32 := 0#32
  let c64_i32 : BitVec 32 := 64#32
  let v24 : BitVec 32 := Scalar.addi c0_i32_28 c64_i32
  let c1_i32_29 : BitVec 32 := 1#32
  ⟨c0_i32_28, v24, c1_i32_29⟩
def k1_off12 (k1_t4 : Fin k1_t4_loop.trips) : Fin 2 → Nat :=
  let c4_i32 : BitVec 32 := 4#32
  let c0_i32_28 : BitVec 32 := 0#32
  let c1_i32_29 : BitVec 32 := 1#32
  let arg10 : BitVec 32 := Scf.iv c0_i32_28 c1_i32_29 k1_t4
  let v47 : BitVec 32 := Scalar.muli c4_i32 arg10
  let c16_i32_43 : BitVec 32 := 16#32
  let v48 : BitVec 32 := Scalar.muli v47 c16_i32_43
  let v58 : Index := Scalar.indexCast v48
  let c0_51 : Index := 0#32
  ![v58.toNat, 0]
def k1_off13 (k1_t4 : Fin k1_t4_loop.trips) : Fin 2 → Nat :=
  let c4_i32 : BitVec 32 := 4#32
  let c0_i32_28 : BitVec 32 := 0#32
  let c1_i32_29 : BitVec 32 := 1#32
  let arg10 : BitVec 32 := Scf.iv c0_i32_28 c1_i32_29 k1_t4
  let v47 : BitVec 32 := Scalar.muli c4_i32 arg10
  let c16_i32_43 : BitVec 32 := 16#32
  let v48 : BitVec 32 := Scalar.muli v47 c16_i32_43
  let v60 : Index := Scalar.indexCast v48
  let c0_52 : Index := 0#32
  ![v60.toNat, 0]
def k1_off14 (k1_t4 : Fin k1_t4_loop.trips) (c1_i32_45 : BitVec 32) : Fin 2 → Nat :=
  let c4_i32_44 : BitVec 32 := 4#32
  let c0_i32_28 : BitVec 32 := 0#32
  let c1_i32_29 : BitVec 32 := 1#32
  let arg10 : BitVec 32 := Scf.iv c0_i32_28 c1_i32_29 k1_t4
  let v49 : BitVec 32 := Scalar.muli c4_i32_44 arg10
  let v50 : BitVec 32 := Scalar.addi v49 c1_i32_45
  let c16_i32_46 : BitVec 32 := 16#32
  let v51 : BitVec 32 := Scalar.muli v50 c16_i32_46
  let v64 : Index := Scalar.indexCast v51
  let c0_53 : Index := 0#32
  ![v64.toNat, 0]
def k1_off15 (k1_t4 : Fin k1_t4_loop.trips) (c1_i32_45 : BitVec 32) : Fin 2 → Nat :=
  let c4_i32_44 : BitVec 32 := 4#32
  let c0_i32_28 : BitVec 32 := 0#32
  let c1_i32_29 : BitVec 32 := 1#32
  let arg10 : BitVec 32 := Scf.iv c0_i32_28 c1_i32_29 k1_t4
  let v49 : BitVec 32 := Scalar.muli c4_i32_44 arg10
  let v50 : BitVec 32 := Scalar.addi v49 c1_i32_45
  let c16_i32_46 : BitVec 32 := 16#32
  let v51 : BitVec 32 := Scalar.muli v50 c16_i32_46
  let v66 : Index := Scalar.indexCast v51
  let c0_54 : Index := 0#32
  ![v66.toNat, 0]
@[reducible] def k1_t5_loop : Scf.Loop 32 :=
  let c0_i32_33 : BitVec 32 := 0#32
  let c64_i32_34 : BitVec 32 := 64#32
  let v29 : BitVec 32 := Scalar.addi c0_i32_33 c64_i32_34
  let c1_i32_35 : BitVec 32 := 1#32
  ⟨c0_i32_33, v29, c1_i32_35⟩
def k1_off16 (k1_t5 : Fin k1_t5_loop.trips) : Fin 2 → Nat :=
  let c4_i32 : BitVec 32 := 4#32
  let c0_i32_33 : BitVec 32 := 0#32
  let c1_i32_35 : BitVec 32 := 1#32
  let arg10 : BitVec 32 := Scf.iv c0_i32_33 c1_i32_35 k1_t5
  let v47 : BitVec 32 := Scalar.muli c4_i32 arg10
  let c16_i32_43 : BitVec 32 := 16#32
  let v48 : BitVec 32 := Scalar.muli v47 c16_i32_43
  let v58 : Index := Scalar.indexCast v48
  let c2048 : Index := 2048#32
  ![v58.toNat, 2048]
def k1_off17 (k1_t5 : Fin k1_t5_loop.trips) : Fin 2 → Nat :=
  let c4_i32 : BitVec 32 := 4#32
  let c0_i32_33 : BitVec 32 := 0#32
  let c1_i32_35 : BitVec 32 := 1#32
  let arg10 : BitVec 32 := Scf.iv c0_i32_33 c1_i32_35 k1_t5
  let v47 : BitVec 32 := Scalar.muli c4_i32 arg10
  let c16_i32_43 : BitVec 32 := 16#32
  let v48 : BitVec 32 := Scalar.muli v47 c16_i32_43
  let v60 : Index := Scalar.indexCast v48
  let c0_51 : Index := 0#32
  ![v60.toNat, 0]
def k1_off18 (k1_t5 : Fin k1_t5_loop.trips) (c1_i32_45 : BitVec 32) : Fin 2 → Nat :=
  let c4_i32_44 : BitVec 32 := 4#32
  let c0_i32_33 : BitVec 32 := 0#32
  let c1_i32_35 : BitVec 32 := 1#32
  let arg10 : BitVec 32 := Scf.iv c0_i32_33 c1_i32_35 k1_t5
  let v49 : BitVec 32 := Scalar.muli c4_i32_44 arg10
  let v50 : BitVec 32 := Scalar.addi v49 c1_i32_45
  let c16_i32_46 : BitVec 32 := 16#32
  let v51 : BitVec 32 := Scalar.muli v50 c16_i32_46
  let v64 : Index := Scalar.indexCast v51
  let c2048_52 : Index := 2048#32
  ![v64.toNat, 2048]
def k1_off19 (k1_t5 : Fin k1_t5_loop.trips) (c1_i32_45 : BitVec 32) : Fin 2 → Nat :=
  let c4_i32_44 : BitVec 32 := 4#32
  let c0_i32_33 : BitVec 32 := 0#32
  let c1_i32_35 : BitVec 32 := 1#32
  let arg10 : BitVec 32 := Scf.iv c0_i32_33 c1_i32_35 k1_t5
  let v49 : BitVec 32 := Scalar.muli c4_i32_44 arg10
  let v50 : BitVec 32 := Scalar.addi v49 c1_i32_45
  let c16_i32_46 : BitVec 32 := 16#32
  let v51 : BitVec 32 := Scalar.muli v50 c16_i32_46
  let v66 : Index := Scalar.indexCast v51
  let c0_53 : Index := 0#32
  ![v66.toNat, 0]
@[reducible] def k1_t6_loop : Scf.Loop 32 :=
  let c0_i32_10 : BitVec 32 := 0#32
  let c16_i32_11 : BitVec 32 := 16#32
  let v11 : BitVec 32 := Scalar.addi c0_i32_10 c16_i32_11
  let c1_i32_12 : BitVec 32 := 1#32
  ⟨c0_i32_10, v11, c1_i32_12⟩
def k1_cond2 (k1_t6 : Fin k1_t6_loop.trips) : BitVec 1 :=
  let c0_i32_10 : BitVec 32 := 0#32
  let c1_i32_12 : BitVec 32 := 1#32
  let arg9 : BitVec 32 := Scf.iv c0_i32_10 c1_i32_12 k1_t6
  let c2_i32_24 : BitVec 32 := 2#32
  let v23 : BitVec 1 := Scalar.cmpi .sge arg9 c2_i32_24
  let v24 : BitVec 32 := Scalar.extui v23
  let c0_i32_25 : BitVec 32 := 0#32
  let v25 : BitVec 1 := Scalar.cmpi .ne v24 c0_i32_25
  v25

def k1_off20 (k1_t6 : Fin k1_t6_loop.trips) : Fin 1 → Nat :=
  let c0_i32_10 : BitVec 32 := 0#32
  let c1_i32_12 : BitVec 32 := 1#32
  let arg9 : BitVec 32 := Scf.iv c0_i32_10 c1_i32_12 k1_t6
  let c2_i32 : BitVec 32 := 2#32
  let v22 : BitVec 32 := Scalar.remsi arg9 c2_i32
  ![v22.toNat]
def k1_off21 (k1_t6 : Fin k1_t6_loop.trips) : Fin 2 → Nat :=
  let c0_i32_10 : BitVec 32 := 0#32
  let c1_i32_12 : BitVec 32 := 1#32
  let arg9 : BitVec 32 := Scf.iv c0_i32_10 c1_i32_12 k1_t6
  let c2_i32_162 : BitVec 32 := 2#32
  let v320 : BitVec 32 := Scalar.subi arg9 c2_i32_162
  let c256_i32_163 : BitVec 32 := 256#32
  let v321 : BitVec 32 := Scalar.muli v320 c256_i32_163
  let c0_i32_164 : BitVec 32 := 0#32
  ![v321.toNat, 0]
def k1_off22 (k1_t6 : Fin k1_t6_loop.trips) : Fin 3 → Nat :=
  let c0_i32_10 : BitVec 32 := 0#32
  let c1_i32_12 : BitVec 32 := 1#32
  let arg9 : BitVec 32 := Scf.iv c0_i32_10 c1_i32_12 k1_t6
  let c2_i32 : BitVec 32 := 2#32
  let v22 : BitVec 32 := Scalar.remsi arg9 c2_i32
  let c0_i32_165 : BitVec 32 := 0#32
  let c0_i32_166 : BitVec 32 := 0#32
  ![v22.toNat, 0, 0]
def k1_off23 (k1_t6 : Fin k1_t6_loop.trips) (c0_i32_26 : BitVec 32) : Fin 2 → Nat :=
  let c0_i32_10 : BitVec 32 := 0#32
  let c1_i32_12 : BitVec 32 := 1#32
  let arg9 : BitVec 32 := Scf.iv c0_i32_10 c1_i32_12 k1_t6
  let c256_i32 : BitVec 32 := 256#32
  let v26 : BitVec 32 := Scalar.muli arg9 c256_i32
  let c16_i32_27 : BitVec 32 := 16#32
  let v27 : BitVec 32 := Scalar.muli c0_i32_26 c16_i32_27
  let v28 : BitVec 32 := Scalar.addi v26 v27
  let v29 : Index := Scalar.indexCast v28
  let c0_28 : Index := 0#32
  ![v29.toNat, 0]
def k1_off24 (k1_t6 : Fin k1_t6_loop.trips) (c0_i32_26 : BitVec 32) : Fin 2 → Nat :=
  let c0_i32_10 : BitVec 32 := 0#32
  let c1_i32_12 : BitVec 32 := 1#32
  let arg9 : BitVec 32 := Scf.iv c0_i32_10 c1_i32_12 k1_t6
  let c256_i32 : BitVec 32 := 256#32
  let v26 : BitVec 32 := Scalar.muli arg9 c256_i32
  let c16_i32_27 : BitVec 32 := 16#32
  let v27 : BitVec 32 := Scalar.muli c0_i32_26 c16_i32_27
  let v28 : BitVec 32 := Scalar.addi v26 v27
  let v31 : Index := Scalar.indexCast v28
  let c0_29 : Index := 0#32
  ![v31.toNat, 0]
def k1_off25 (k1_t6 : Fin k1_t6_loop.trips) (c0_i32_26 : BitVec 32) : Fin 3 → Nat :=
  let c0_i32_10 : BitVec 32 := 0#32
  let c1_i32_12 : BitVec 32 := 1#32
  let arg9 : BitVec 32 := Scf.iv c0_i32_10 c1_i32_12 k1_t6
  let c2_i32 : BitVec 32 := 2#32
  let v22 : BitVec 32 := Scalar.remsi arg9 c2_i32
  let v39 : Index := Scalar.indexCast v22
  let c16_i32_32 : BitVec 32 := 16#32
  let v38 : BitVec 32 := Scalar.muli c0_i32_26 c16_i32_32
  let v40 : Index := Scalar.indexCast v38
  let c0_33 : Index := 0#32
  ![v39.toNat, v40.toNat, 0]
def k1_off26 (k1_t6 : Fin k1_t6_loop.trips) : Fin 1 → Nat :=
  let c0_i32_10 : BitVec 32 := 0#32
  let c1_i32_12 : BitVec 32 := 1#32
  let arg9 : BitVec 32 := Scf.iv c0_i32_10 c1_i32_12 k1_t6
  let c2_i32 : BitVec 32 := 2#32
  let v22 : BitVec 32 := Scalar.remsi arg9 c2_i32
  ![v22.toNat]
def k1_off27 (k1_t6 : Fin k1_t6_loop.trips) : Fin 2 → Nat :=
  let c0_i32_10 : BitVec 32 := 0#32
  let c1_i32_12 : BitVec 32 := 1#32
  let arg9 : BitVec 32 := Scf.iv c0_i32_10 c1_i32_12 k1_t6
  let c256_i32_158 : BitVec 32 := 256#32
  let v314 : BitVec 32 := Scalar.muli arg9 c256_i32_158
  let c0_i32_159 : BitVec 32 := 0#32
  ![v314.toNat, 0]
def k1_off28 (k1_t6 : Fin k1_t6_loop.trips) : Fin 3 → Nat :=
  let c0_i32_10 : BitVec 32 := 0#32
  let c1_i32_12 : BitVec 32 := 1#32
  let arg9 : BitVec 32 := Scf.iv c0_i32_10 c1_i32_12 k1_t6
  let c2_i32 : BitVec 32 := 2#32
  let v22 : BitVec 32 := Scalar.remsi arg9 c2_i32
  let c0_i32_160 : BitVec 32 := 0#32
  let c0_i32_161 : BitVec 32 := 0#32
  ![v22.toNat, 0, 0]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 530
  | .vmem => 0
  | .smem => 0
  | _ => 0

abbrev hbmTy0_0 (i : Nat) : BufTy := match i % 128 with
  | 0 => ⟨S4096x4096, .f32⟩
  | 1 => ⟨S4096x4096, .f32⟩
  | 2 => ⟨S_, .f32⟩
  | 3 => ⟨S4096x4096, .f32⟩
  | 4 => ⟨S4096x4096, .f32⟩
  | 5 => ⟨S_, .f32⟩
  | 6 => ⟨S4096, .f32⟩
  | 7 => ⟨S4096x1, .f32⟩
  | 8 => ⟨S4096x4096, .f32⟩
  | 9 => ⟨S4096x4096, .f32⟩
  | 10 => ⟨S4096x4096, .f32⟩
  | 11 => ⟨S_, .f32⟩
  | 12 => ⟨S4096, .f32⟩
  | 13 => ⟨S4096x1, .f32⟩
  | 14 => ⟨S4096x1, .f32⟩
  | 15 => ⟨S4096x1, .f32⟩
  | 16 => ⟨S4096x4096, .f32⟩
  | 17 => ⟨S4096x4096, .f32⟩
  | 18 => ⟨S_, .f32⟩
  | 19 => ⟨S4096, .f32⟩
  | 20 => ⟨S1x4096, .f32⟩
  | 21 => ⟨S4096x4096, .f32⟩
  | 22 => ⟨S4096x4096, .f32⟩
  | 23 => ⟨S4096x4096, .f32⟩
  | 24 => ⟨S_, .f32⟩
  | 25 => ⟨S4096, .f32⟩
  | 26 => ⟨S1x4096, .f32⟩
  | 27 => ⟨S1x4096, .f32⟩
  | 28 => ⟨S1x4096, .f32⟩
  | 29 => ⟨S4096x4096, .f32⟩
  | 30 => ⟨S4096x4096, .f32⟩
  | 31 => ⟨S_, .f32⟩
  | 32 => ⟨S4096, .f32⟩
  | 33 => ⟨S4096x1, .f32⟩
  | 34 => ⟨S4096x4096, .f32⟩
  | 35 => ⟨S4096x4096, .f32⟩
  | 36 => ⟨S4096x4096, .f32⟩
  | 37 => ⟨S_, .f32⟩
  | 38 => ⟨S4096, .f32⟩
  | 39 => ⟨S4096x1, .f32⟩
  | 40 => ⟨S4096x1, .f32⟩
  | 41 => ⟨S4096x1, .f32⟩
  | 42 => ⟨S4096x4096, .f32⟩
  | 43 => ⟨S4096x4096, .f32⟩
  | 44 => ⟨S_, .f32⟩
  | 45 => ⟨S4096, .f32⟩
  | 46 => ⟨S1x4096, .f32⟩
  | 47 => ⟨S4096x4096, .f32⟩
  | 48 => ⟨S4096x4096, .f32⟩
  | 49 => ⟨S4096x4096, .f32⟩
  | 50 => ⟨S_, .f32⟩
  | 51 => ⟨S4096, .f32⟩
  | 52 => ⟨S1x4096, .f32⟩
  | 53 => ⟨S1x4096, .f32⟩
  | 54 => ⟨S1x4096, .f32⟩
  | 55 => ⟨S4096x4096, .f32⟩
  | 56 => ⟨S4096x4096, .f32⟩
  | 57 => ⟨S_, .f32⟩
  | 58 => ⟨S4096, .f32⟩
  | 59 => ⟨S4096x1, .f32⟩
  | 60 => ⟨S4096x4096, .f32⟩
  | 61 => ⟨S4096x4096, .f32⟩
  | 62 => ⟨S4096x4096, .f32⟩
  | 63 => ⟨S_, .f32⟩
  | 64 => ⟨S4096, .f32⟩
  | 65 => ⟨S4096x1, .f32⟩
  | 66 => ⟨S4096x1, .f32⟩
  | 67 => ⟨S4096x1, .f32⟩
  | 68 => ⟨S4096x4096, .f32⟩
  | 69 => ⟨S4096x4096, .f32⟩
  | 70 => ⟨S_, .f32⟩
  | 71 => ⟨S4096, .f32⟩
  | 72 => ⟨S1x4096, .f32⟩
  | 73 => ⟨S4096x4096, .f32⟩
  | 74 => ⟨S4096x4096, .f32⟩
  | 75 => ⟨S4096x4096, .f32⟩
  | 76 => ⟨S_, .f32⟩
  | 77 => ⟨S4096, .f32⟩
  | 78 => ⟨S1x4096, .f32⟩
  | 79 => ⟨S1x4096, .f32⟩
  | 80 => ⟨S1x4096, .f32⟩
  | 81 => ⟨S4096x4096, .f32⟩
  | 82 => ⟨S4096x4096, .f32⟩
  | 83 => ⟨S_, .f32⟩
  | 84 => ⟨S4096, .f32⟩
  | 85 => ⟨S4096x1, .f32⟩
  | 86 => ⟨S4096x4096, .f32⟩
  | 87 => ⟨S4096x4096, .f32⟩
  | 88 => ⟨S4096x4096, .f32⟩
  | 89 => ⟨S_, .f32⟩
  | 90 => ⟨S4096, .f32⟩
  | 91 => ⟨S4096x1, .f32⟩
  | 92 => ⟨S4096x1, .f32⟩
  | 93 => ⟨S4096x1, .f32⟩
  | 94 => ⟨S4096x4096, .f32⟩
  | 95 => ⟨S4096x4096, .f32⟩
  | 96 => ⟨S_, .f32⟩
  | 97 => ⟨S4096, .f32⟩
  | 98 => ⟨S1x4096, .f32⟩
  | 99 => ⟨S4096x4096, .f32⟩
  | 100 => ⟨S4096x4096, .f32⟩
  | 101 => ⟨S4096x4096, .f32⟩
  | 102 => ⟨S_, .f32⟩
  | 103 => ⟨S4096, .f32⟩
  | 104 => ⟨S1x4096, .f32⟩
  | 105 => ⟨S1x4096, .f32⟩
  | 106 => ⟨S1x4096, .f32⟩
  | 107 => ⟨S4096x4096, .f32⟩
  | 108 => ⟨S4096x4096, .f32⟩
  | 109 => ⟨S_, .f32⟩
  | 110 => ⟨S4096, .f32⟩
  | 111 => ⟨S4096x1, .f32⟩
  | 112 => ⟨S4096x4096, .f32⟩
  | 113 => ⟨S4096x4096, .f32⟩
  | 114 => ⟨S4096x4096, .f32⟩
  | 115 => ⟨S_, .f32⟩
  | 116 => ⟨S4096, .f32⟩
  | 117 => ⟨S4096x1, .f32⟩
  | 118 => ⟨S4096x1, .f32⟩
  | 119 => ⟨S4096x1, .f32⟩
  | 120 => ⟨S4096x4096, .f32⟩
  | 121 => ⟨S4096x4096, .f32⟩
  | 122 => ⟨S_, .f32⟩
  | 123 => ⟨S4096, .f32⟩
  | 124 => ⟨S1x4096, .f32⟩
  | 125 => ⟨S4096x4096, .f32⟩
  | 126 => ⟨S4096x4096, .f32⟩
  | 127 => ⟨S4096x4096, .f32⟩
  | _ => ⟨S4096x4096, .f32⟩

abbrev hbmTy0_1 (i : Nat) : BufTy := match i % 128 with
  | 0 => ⟨S_, .f32⟩
  | 1 => ⟨S4096, .f32⟩
  | 2 => ⟨S1x4096, .f32⟩
  | 3 => ⟨S1x4096, .f32⟩
  | 4 => ⟨S1x4096, .f32⟩
  | 5 => ⟨S4096x4096, .f32⟩
  | 6 => ⟨S4096x4096, .f32⟩
  | 7 => ⟨S_, .f32⟩
  | 8 => ⟨S4096, .f32⟩
  | 9 => ⟨S4096x1, .f32⟩
  | 10 => ⟨S4096x4096, .f32⟩
  | 11 => ⟨S4096x4096, .f32⟩
  | 12 => ⟨S4096x4096, .f32⟩
  | 13 => ⟨S_, .f32⟩
  | 14 => ⟨S4096, .f32⟩
  | 15 => ⟨S4096x1, .f32⟩
  | 16 => ⟨S4096x1, .f32⟩
  | 17 => ⟨S4096x1, .f32⟩
  | 18 => ⟨S4096x4096, .f32⟩
  | 19 => ⟨S4096x4096, .f32⟩
  | 20 => ⟨S_, .f32⟩
  | 21 => ⟨S4096, .f32⟩
  | 22 => ⟨S1x4096, .f32⟩
  | 23 => ⟨S4096x4096, .f32⟩
  | 24 => ⟨S4096x4096, .f32⟩
  | 25 => ⟨S4096x4096, .f32⟩
  | 26 => ⟨S_, .f32⟩
  | 27 => ⟨S4096, .f32⟩
  | 28 => ⟨S1x4096, .f32⟩
  | 29 => ⟨S1x4096, .f32⟩
  | 30 => ⟨S1x4096, .f32⟩
  | 31 => ⟨S4096x4096, .f32⟩
  | 32 => ⟨S4096x4096, .f32⟩
  | 33 => ⟨S_, .f32⟩
  | 34 => ⟨S4096, .f32⟩
  | 35 => ⟨S4096x1, .f32⟩
  | 36 => ⟨S4096x4096, .f32⟩
  | 37 => ⟨S4096x4096, .f32⟩
  | 38 => ⟨S4096x4096, .f32⟩
  | 39 => ⟨S_, .f32⟩
  | 40 => ⟨S4096, .f32⟩
  | 41 => ⟨S4096x1, .f32⟩
  | 42 => ⟨S4096x1, .f32⟩
  | 43 => ⟨S4096x1, .f32⟩
  | 44 => ⟨S4096x4096, .f32⟩
  | 45 => ⟨S4096x4096, .f32⟩
  | 46 => ⟨S_, .f32⟩
  | 47 => ⟨S4096, .f32⟩
  | 48 => ⟨S1x4096, .f32⟩
  | 49 => ⟨S4096x4096, .f32⟩
  | 50 => ⟨S4096x4096, .f32⟩
  | 51 => ⟨S4096x4096, .f32⟩
  | 52 => ⟨S_, .f32⟩
  | 53 => ⟨S4096, .f32⟩
  | 54 => ⟨S1x4096, .f32⟩
  | 55 => ⟨S1x4096, .f32⟩
  | 56 => ⟨S1x4096, .f32⟩
  | 57 => ⟨S4096x4096, .f32⟩
  | 58 => ⟨S4096x4096, .f32⟩
  | 59 => ⟨S_, .f32⟩
  | 60 => ⟨S4096, .f32⟩
  | 61 => ⟨S4096x1, .f32⟩
  | 62 => ⟨S4096x4096, .f32⟩
  | 63 => ⟨S4096x4096, .f32⟩
  | 64 => ⟨S4096x4096, .f32⟩
  | 65 => ⟨S_, .f32⟩
  | 66 => ⟨S4096, .f32⟩
  | 67 => ⟨S4096x1, .f32⟩
  | 68 => ⟨S4096x1, .f32⟩
  | 69 => ⟨S4096x1, .f32⟩
  | 70 => ⟨S4096x4096, .f32⟩
  | 71 => ⟨S4096x4096, .f32⟩
  | 72 => ⟨S_, .f32⟩
  | 73 => ⟨S4096, .f32⟩
  | 74 => ⟨S1x4096, .f32⟩
  | 75 => ⟨S4096x4096, .f32⟩
  | 76 => ⟨S4096x4096, .f32⟩
  | 77 => ⟨S4096x4096, .f32⟩
  | 78 => ⟨S_, .f32⟩
  | 79 => ⟨S4096, .f32⟩
  | 80 => ⟨S1x4096, .f32⟩
  | 81 => ⟨S1x4096, .f32⟩
  | 82 => ⟨S1x4096, .f32⟩
  | 83 => ⟨S4096x4096, .f32⟩
  | 84 => ⟨S4096x4096, .f32⟩
  | 85 => ⟨S_, .f32⟩
  | 86 => ⟨S4096, .f32⟩
  | 87 => ⟨S4096x1, .f32⟩
  | 88 => ⟨S4096x4096, .f32⟩
  | 89 => ⟨S4096x4096, .f32⟩
  | 90 => ⟨S4096x4096, .f32⟩
  | 91 => ⟨S_, .f32⟩
  | 92 => ⟨S4096, .f32⟩
  | 93 => ⟨S4096x1, .f32⟩
  | 94 => ⟨S4096x1, .f32⟩
  | 95 => ⟨S4096x1, .f32⟩
  | 96 => ⟨S4096x4096, .f32⟩
  | 97 => ⟨S4096x4096, .f32⟩
  | 98 => ⟨S_, .f32⟩
  | 99 => ⟨S4096, .f32⟩
  | 100 => ⟨S1x4096, .f32⟩
  | 101 => ⟨S4096x4096, .f32⟩
  | 102 => ⟨S4096x4096, .f32⟩
  | 103 => ⟨S4096x4096, .f32⟩
  | 104 => ⟨S_, .f32⟩
  | 105 => ⟨S4096, .f32⟩
  | 106 => ⟨S1x4096, .f32⟩
  | 107 => ⟨S1x4096, .f32⟩
  | 108 => ⟨S1x4096, .f32⟩
  | 109 => ⟨S4096x4096, .f32⟩
  | 110 => ⟨S4096x4096, .f32⟩
  | 111 => ⟨S_, .f32⟩
  | 112 => ⟨S4096, .f32⟩
  | 113 => ⟨S4096x1, .f32⟩
  | 114 => ⟨S4096x4096, .f32⟩
  | 115 => ⟨S4096x4096, .f32⟩
  | 116 => ⟨S4096x4096, .f32⟩
  | 117 => ⟨S_, .f32⟩
  | 118 => ⟨S4096, .f32⟩
  | 119 => ⟨S4096x1, .f32⟩
  | 120 => ⟨S4096x1, .f32⟩
  | 121 => ⟨S4096x1, .f32⟩
  | 122 => ⟨S4096x4096, .f32⟩
  | 123 => ⟨S4096x4096, .f32⟩
  | 124 => ⟨S_, .f32⟩
  | 125 => ⟨S4096, .f32⟩
  | 126 => ⟨S1x4096, .f32⟩
  | 127 => ⟨S4096x4096, .f32⟩
  | _ => ⟨S4096x4096, .f32⟩

abbrev hbmTy0_2 (i : Nat) : BufTy := match i % 128 with
  | 0 => ⟨S4096x4096, .f32⟩
  | 1 => ⟨S4096x4096, .f32⟩
  | 2 => ⟨S_, .f32⟩
  | 3 => ⟨S4096, .f32⟩
  | 4 => ⟨S1x4096, .f32⟩
  | 5 => ⟨S1x4096, .f32⟩
  | 6 => ⟨S1x4096, .f32⟩
  | 7 => ⟨S4096x4096, .f32⟩
  | 8 => ⟨S4096x4096, .f32⟩
  | 9 => ⟨S4096x4096, .f32⟩
  | 10 => ⟨S_, .f32⟩
  | 11 => ⟨S4096x4096, .f32⟩
  | 12 => ⟨S4096x4096, .f32⟩
  | 13 => ⟨S_, .f32⟩
  | 14 => ⟨S4096, .f32⟩
  | 15 => ⟨S4096x1, .f32⟩
  | 16 => ⟨S4096x4096, .f32⟩
  | 17 => ⟨S4096x4096, .f32⟩
  | 18 => ⟨S4096x4096, .f32⟩
  | 19 => ⟨S_, .f32⟩
  | 20 => ⟨S4096, .f32⟩
  | 21 => ⟨S4096x1, .f32⟩
  | 22 => ⟨S4096x1, .f32⟩
  | 23 => ⟨S4096x1, .f32⟩
  | 24 => ⟨S4096x4096, .f32⟩
  | 25 => ⟨S4096x4096, .f32⟩
  | 26 => ⟨S_, .f32⟩
  | 27 => ⟨S4096, .f32⟩
  | 28 => ⟨S1x4096, .f32⟩
  | 29 => ⟨S4096x4096, .f32⟩
  | 30 => ⟨S4096x4096, .f32⟩
  | 31 => ⟨S4096x4096, .f32⟩
  | 32 => ⟨S_, .f32⟩
  | 33 => ⟨S4096, .f32⟩
  | 34 => ⟨S1x4096, .f32⟩
  | 35 => ⟨S1x4096, .f32⟩
  | 36 => ⟨S1x4096, .f32⟩
  | 37 => ⟨S4096x4096, .f32⟩
  | 38 => ⟨S4096x4096, .f32⟩
  | 39 => ⟨S_, .f32⟩
  | 40 => ⟨S4096, .f32⟩
  | 41 => ⟨S4096x1, .f32⟩
  | 42 => ⟨S4096x4096, .f32⟩
  | 43 => ⟨S4096x4096, .f32⟩
  | 44 => ⟨S4096x4096, .f32⟩
  | 45 => ⟨S_, .f32⟩
  | 46 => ⟨S4096, .f32⟩
  | 47 => ⟨S4096x1, .f32⟩
  | 48 => ⟨S4096x1, .f32⟩
  | 49 => ⟨S4096x1, .f32⟩
  | 50 => ⟨S4096x4096, .f32⟩
  | 51 => ⟨S4096x4096, .f32⟩
  | 52 => ⟨S_, .f32⟩
  | 53 => ⟨S4096, .f32⟩
  | 54 => ⟨S1x4096, .f32⟩
  | 55 => ⟨S4096x4096, .f32⟩
  | 56 => ⟨S4096x4096, .f32⟩
  | 57 => ⟨S4096x4096, .f32⟩
  | 58 => ⟨S_, .f32⟩
  | 59 => ⟨S4096, .f32⟩
  | 60 => ⟨S1x4096, .f32⟩
  | 61 => ⟨S1x4096, .f32⟩
  | 62 => ⟨S1x4096, .f32⟩
  | 63 => ⟨S4096x4096, .f32⟩
  | 64 => ⟨S4096x4096, .f32⟩
  | 65 => ⟨S_, .f32⟩
  | 66 => ⟨S4096, .f32⟩
  | 67 => ⟨S4096x1, .f32⟩
  | 68 => ⟨S4096x4096, .f32⟩
  | 69 => ⟨S4096x4096, .f32⟩
  | 70 => ⟨S4096x4096, .f32⟩
  | 71 => ⟨S_, .f32⟩
  | 72 => ⟨S4096, .f32⟩
  | 73 => ⟨S4096x1, .f32⟩
  | 74 => ⟨S4096x1, .f32⟩
  | 75 => ⟨S4096x1, .f32⟩
  | 76 => ⟨S4096x4096, .f32⟩
  | 77 => ⟨S4096x4096, .f32⟩
  | 78 => ⟨S_, .f32⟩
  | 79 => ⟨S4096, .f32⟩
  | 80 => ⟨S1x4096, .f32⟩
  | 81 => ⟨S4096x4096, .f32⟩
  | 82 => ⟨S4096x4096, .f32⟩
  | 83 => ⟨S4096x4096, .f32⟩
  | 84 => ⟨S_, .f32⟩
  | 85 => ⟨S4096, .f32⟩
  | 86 => ⟨S1x4096, .f32⟩
  | 87 => ⟨S1x4096, .f32⟩
  | 88 => ⟨S1x4096, .f32⟩
  | 89 => ⟨S4096x4096, .f32⟩
  | 90 => ⟨S4096x4096, .f32⟩
  | 91 => ⟨S_, .f32⟩
  | 92 => ⟨S4096, .f32⟩
  | 93 => ⟨S4096x1, .f32⟩
  | 94 => ⟨S4096x4096, .f32⟩
  | 95 => ⟨S4096x4096, .f32⟩
  | 96 => ⟨S4096x4096, .f32⟩
  | 97 => ⟨S_, .f32⟩
  | 98 => ⟨S4096, .f32⟩
  | 99 => ⟨S4096x1, .f32⟩
  | 100 => ⟨S4096x1, .f32⟩
  | 101 => ⟨S4096x1, .f32⟩
  | 102 => ⟨S4096x4096, .f32⟩
  | 103 => ⟨S4096x4096, .f32⟩
  | 104 => ⟨S_, .f32⟩
  | 105 => ⟨S4096, .f32⟩
  | 106 => ⟨S1x4096, .f32⟩
  | 107 => ⟨S4096x4096, .f32⟩
  | 108 => ⟨S4096x4096, .f32⟩
  | 109 => ⟨S4096x4096, .f32⟩
  | 110 => ⟨S_, .f32⟩
  | 111 => ⟨S4096, .f32⟩
  | 112 => ⟨S1x4096, .f32⟩
  | 113 => ⟨S1x4096, .f32⟩
  | 114 => ⟨S1x4096, .f32⟩
  | 115 => ⟨S4096x4096, .f32⟩
  | 116 => ⟨S4096x4096, .f32⟩
  | 117 => ⟨S_, .f32⟩
  | 118 => ⟨S4096, .f32⟩
  | 119 => ⟨S4096x1, .f32⟩
  | 120 => ⟨S4096x4096, .f32⟩
  | 121 => ⟨S4096x4096, .f32⟩
  | 122 => ⟨S4096x4096, .f32⟩
  | 123 => ⟨S_, .f32⟩
  | 124 => ⟨S4096, .f32⟩
  | 125 => ⟨S4096x1, .f32⟩
  | 126 => ⟨S4096x1, .f32⟩
  | 127 => ⟨S4096x1, .f32⟩
  | _ => ⟨S4096x4096, .f32⟩

abbrev hbmTy0_3 (i : Nat) : BufTy := match i % 128 with
  | 0 => ⟨S4096x4096, .f32⟩
  | 1 => ⟨S4096x4096, .f32⟩
  | 2 => ⟨S_, .f32⟩
  | 3 => ⟨S4096, .f32⟩
  | 4 => ⟨S1x4096, .f32⟩
  | 5 => ⟨S4096x4096, .f32⟩
  | 6 => ⟨S4096x4096, .f32⟩
  | 7 => ⟨S4096x4096, .f32⟩
  | 8 => ⟨S_, .f32⟩
  | 9 => ⟨S4096, .f32⟩
  | 10 => ⟨S1x4096, .f32⟩
  | 11 => ⟨S1x4096, .f32⟩
  | 12 => ⟨S1x4096, .f32⟩
  | 13 => ⟨S4096x4096, .f32⟩
  | 14 => ⟨S4096x4096, .f32⟩
  | 15 => ⟨S_, .f32⟩
  | 16 => ⟨S4096, .f32⟩
  | 17 => ⟨S4096x1, .f32⟩
  | 18 => ⟨S4096x4096, .f32⟩
  | 19 => ⟨S4096x4096, .f32⟩
  | 20 => ⟨S4096x4096, .f32⟩
  | 21 => ⟨S_, .f32⟩
  | 22 => ⟨S4096, .f32⟩
  | 23 => ⟨S4096x1, .f32⟩
  | 24 => ⟨S4096x1, .f32⟩
  | 25 => ⟨S4096x1, .f32⟩
  | 26 => ⟨S4096x4096, .f32⟩
  | 27 => ⟨S4096x4096, .f32⟩
  | 28 => ⟨S_, .f32⟩
  | 29 => ⟨S4096, .f32⟩
  | 30 => ⟨S1x4096, .f32⟩
  | 31 => ⟨S4096x4096, .f32⟩
  | 32 => ⟨S4096x4096, .f32⟩
  | 33 => ⟨S4096x4096, .f32⟩
  | 34 => ⟨S_, .f32⟩
  | 35 => ⟨S4096, .f32⟩
  | 36 => ⟨S1x4096, .f32⟩
  | 37 => ⟨S1x4096, .f32⟩
  | 38 => ⟨S1x4096, .f32⟩
  | 39 => ⟨S4096x4096, .f32⟩
  | 40 => ⟨S4096x4096, .f32⟩
  | 41 => ⟨S_, .f32⟩
  | 42 => ⟨S4096, .f32⟩
  | 43 => ⟨S4096x1, .f32⟩
  | 44 => ⟨S4096x4096, .f32⟩
  | 45 => ⟨S4096x4096, .f32⟩
  | 46 => ⟨S4096x4096, .f32⟩
  | 47 => ⟨S_, .f32⟩
  | 48 => ⟨S4096, .f32⟩
  | 49 => ⟨S4096x1, .f32⟩
  | 50 => ⟨S4096x1, .f32⟩
  | 51 => ⟨S4096x1, .f32⟩
  | 52 => ⟨S4096x4096, .f32⟩
  | 53 => ⟨S4096x4096, .f32⟩
  | 54 => ⟨S_, .f32⟩
  | 55 => ⟨S4096, .f32⟩
  | 56 => ⟨S1x4096, .f32⟩
  | 57 => ⟨S4096x4096, .f32⟩
  | 58 => ⟨S4096x4096, .f32⟩
  | 59 => ⟨S4096x4096, .f32⟩
  | 60 => ⟨S_, .f32⟩
  | 61 => ⟨S4096, .f32⟩
  | 62 => ⟨S1x4096, .f32⟩
  | 63 => ⟨S1x4096, .f32⟩
  | 64 => ⟨S1x4096, .f32⟩
  | 65 => ⟨S4096x4096, .f32⟩
  | 66 => ⟨S4096x4096, .f32⟩
  | 67 => ⟨S_, .f32⟩
  | 68 => ⟨S4096, .f32⟩
  | 69 => ⟨S4096x1, .f32⟩
  | 70 => ⟨S4096x4096, .f32⟩
  | 71 => ⟨S4096x4096, .f32⟩
  | 72 => ⟨S4096x4096, .f32⟩
  | 73 => ⟨S_, .f32⟩
  | 74 => ⟨S4096, .f32⟩
  | 75 => ⟨S4096x1, .f32⟩
  | 76 => ⟨S4096x1, .f32⟩
  | 77 => ⟨S4096x1, .f32⟩
  | 78 => ⟨S4096x4096, .f32⟩
  | 79 => ⟨S4096x4096, .f32⟩
  | 80 => ⟨S_, .f32⟩
  | 81 => ⟨S4096, .f32⟩
  | 82 => ⟨S1x4096, .f32⟩
  | 83 => ⟨S4096x4096, .f32⟩
  | 84 => ⟨S4096x4096, .f32⟩
  | 85 => ⟨S4096x4096, .f32⟩
  | 86 => ⟨S_, .f32⟩
  | 87 => ⟨S4096, .f32⟩
  | 88 => ⟨S1x4096, .f32⟩
  | 89 => ⟨S1x4096, .f32⟩
  | 90 => ⟨S1x4096, .f32⟩
  | 91 => ⟨S4096x4096, .f32⟩
  | 92 => ⟨S4096x4096, .f32⟩
  | 93 => ⟨S_, .f32⟩
  | 94 => ⟨S4096, .f32⟩
  | 95 => ⟨S4096x1, .f32⟩
  | 96 => ⟨S4096x4096, .f32⟩
  | 97 => ⟨S4096x4096, .f32⟩
  | 98 => ⟨S4096x4096, .f32⟩
  | 99 => ⟨S_, .f32⟩
  | 100 => ⟨S4096, .f32⟩
  | 101 => ⟨S4096x1, .f32⟩
  | 102 => ⟨S4096x1, .f32⟩
  | 103 => ⟨S4096x1, .f32⟩
  | 104 => ⟨S4096x4096, .f32⟩
  | 105 => ⟨S4096x4096, .f32⟩
  | 106 => ⟨S_, .f32⟩
  | 107 => ⟨S4096, .f32⟩
  | 108 => ⟨S1x4096, .f32⟩
  | 109 => ⟨S4096x4096, .f32⟩
  | 110 => ⟨S4096x4096, .f32⟩
  | 111 => ⟨S4096x4096, .f32⟩
  | 112 => ⟨S_, .f32⟩
  | 113 => ⟨S4096, .f32⟩
  | 114 => ⟨S1x4096, .f32⟩
  | 115 => ⟨S1x4096, .f32⟩
  | 116 => ⟨S1x4096, .f32⟩
  | 117 => ⟨S4096x4096, .f32⟩
  | 118 => ⟨S4096x4096, .f32⟩
  | 119 => ⟨S_, .f32⟩
  | 120 => ⟨S4096, .f32⟩
  | 121 => ⟨S4096x1, .f32⟩
  | 122 => ⟨S4096x4096, .f32⟩
  | 123 => ⟨S4096x4096, .f32⟩
  | 124 => ⟨S4096x4096, .f32⟩
  | 125 => ⟨S_, .f32⟩
  | 126 => ⟨S4096, .f32⟩
  | 127 => ⟨S4096x1, .f32⟩
  | _ => ⟨S4096x4096, .f32⟩

abbrev hbmTy0_4 (i : Nat) : BufTy := match i % 128 with
  | 0 => ⟨S4096x1, .f32⟩
  | 1 => ⟨S4096x1, .f32⟩
  | 2 => ⟨S4096x4096, .f32⟩
  | 3 => ⟨S4096x4096, .f32⟩
  | 4 => ⟨S_, .f32⟩
  | 5 => ⟨S4096, .f32⟩
  | 6 => ⟨S1x4096, .f32⟩
  | 7 => ⟨S4096x4096, .f32⟩
  | 8 => ⟨S4096x4096, .f32⟩
  | 9 => ⟨S4096x4096, .f32⟩
  | 10 => ⟨S_, .f32⟩
  | 11 => ⟨S4096, .f32⟩
  | 12 => ⟨S1x4096, .f32⟩
  | 13 => ⟨S1x4096, .f32⟩
  | 14 => ⟨S1x4096, .f32⟩
  | 15 => ⟨S4096x4096, .f32⟩
  | 16 => ⟨S4096x4096, .f32⟩
  | 17 => ⟨S4096x4096, .f32⟩
  | _ => ⟨S4096x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_8 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_10 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_11 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_12 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_13 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_14 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_15 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_16 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_17 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_18 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_19 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_20 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_cst_21 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_22 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_23 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_cst_24 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_cst_25 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_26 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_cst_27 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_28 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_cst_29 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_cst_30 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_cst_31 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_cst_32 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_cst_33 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_cst_34 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_cst_35 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_cst_36 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_cst_37 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_cst_38 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_cst_39 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_cst_40 : Ref sig .tc := ⟨.hbm, 266, rfl⟩
abbrev main_v223 : Ref sig .tc := ⟨.hbm, 267, rfl⟩
abbrev main_v224 : Ref sig .tc := ⟨.hbm, 268, rfl⟩
abbrev main_cst_41 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_cst_42 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_cst_43 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_cst_44 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_cst_45 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_cst_46 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_cst_47 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_cst_48 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_cst_49 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_cst_50 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_cst_51 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_cst_52 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_cst_53 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_cst_54 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_cst_55 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_cst_56 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_cst_57 : Ref sig .tc := ⟨.hbm, 373, rfl⟩
abbrev main_v313 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_cst_58 : Ref sig .tc := ⟨.hbm, 379, rfl⟩
abbrev main_v318 : Ref sig .tc := ⟨.hbm, 380, rfl⟩
abbrev main_v319 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_cst_59 : Ref sig .tc := ⟨.hbm, 386, rfl⟩
abbrev main_v324 : Ref sig .tc := ⟨.hbm, 387, rfl⟩
abbrev main_v325 : Ref sig .tc := ⟨.hbm, 388, rfl⟩
abbrev main_v326 : Ref sig .tc := ⟨.hbm, 389, rfl⟩
abbrev main_v327 : Ref sig .tc := ⟨.hbm, 390, rfl⟩
abbrev main_v328 : Ref sig .tc := ⟨.hbm, 391, rfl⟩
abbrev main_cst_60 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_cst_61 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_cst_62 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_cst_63 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_cst_64 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_cst_65 : Ref sig .tc := ⟨.hbm, 425, rfl⟩
abbrev main_v357 : Ref sig .tc := ⟨.hbm, 426, rfl⟩
abbrev main_v358 : Ref sig .tc := ⟨.hbm, 427, rfl⟩
abbrev main_v359 : Ref sig .tc := ⟨.hbm, 428, rfl⟩
abbrev main_v360 : Ref sig .tc := ⟨.hbm, 429, rfl⟩
abbrev main_v361 : Ref sig .tc := ⟨.hbm, 430, rfl⟩
abbrev main_cst_66 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_cst_67 : Ref sig .tc := ⟨.hbm, 438, rfl⟩
abbrev main_v368 : Ref sig .tc := ⟨.hbm, 439, rfl⟩
abbrev main_v369 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_cst_68 : Ref sig .tc := ⟨.hbm, 444, rfl⟩
abbrev main_v373 : Ref sig .tc := ⟨.hbm, 445, rfl⟩
abbrev main_v374 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_v378 : Ref sig .tc := ⟨.hbm, 450, rfl⟩
abbrev main_cst_69 : Ref sig .tc := ⟨.hbm, 451, rfl⟩
abbrev main_v379 : Ref sig .tc := ⟨.hbm, 452, rfl⟩
abbrev main_v380 : Ref sig .tc := ⟨.hbm, 453, rfl⟩
abbrev main_v381 : Ref sig .tc := ⟨.hbm, 454, rfl⟩
abbrev main_v382 : Ref sig .tc := ⟨.hbm, 455, rfl⟩
abbrev main_v383 : Ref sig .tc := ⟨.hbm, 456, rfl⟩
abbrev main_cst_70 : Ref sig .tc := ⟨.hbm, 457, rfl⟩
abbrev main_v384 : Ref sig .tc := ⟨.hbm, 458, rfl⟩
abbrev main_v385 : Ref sig .tc := ⟨.hbm, 459, rfl⟩
abbrev main_v386 : Ref sig .tc := ⟨.hbm, 460, rfl⟩
abbrev main_v387 : Ref sig .tc := ⟨.hbm, 461, rfl⟩
abbrev main_v388 : Ref sig .tc := ⟨.hbm, 462, rfl⟩
abbrev main_v389 : Ref sig .tc := ⟨.hbm, 463, rfl⟩
abbrev main_cst_71 : Ref sig .tc := ⟨.hbm, 464, rfl⟩
abbrev main_v390 : Ref sig .tc := ⟨.hbm, 465, rfl⟩
abbrev main_v391 : Ref sig .tc := ⟨.hbm, 466, rfl⟩
abbrev main_v392 : Ref sig .tc := ⟨.hbm, 467, rfl⟩
abbrev main_v393 : Ref sig .tc := ⟨.hbm, 468, rfl⟩
abbrev main_v394 : Ref sig .tc := ⟨.hbm, 469, rfl⟩
abbrev main_cst_72 : Ref sig .tc := ⟨.hbm, 470, rfl⟩
abbrev main_v395 : Ref sig .tc := ⟨.hbm, 471, rfl⟩
abbrev main_v396 : Ref sig .tc := ⟨.hbm, 472, rfl⟩
abbrev main_v397 : Ref sig .tc := ⟨.hbm, 473, rfl⟩
abbrev main_v398 : Ref sig .tc := ⟨.hbm, 474, rfl⟩
abbrev main_v399 : Ref sig .tc := ⟨.hbm, 475, rfl⟩
abbrev main_v400 : Ref sig .tc := ⟨.hbm, 476, rfl⟩
abbrev main_cst_73 : Ref sig .tc := ⟨.hbm, 477, rfl⟩
abbrev main_v401 : Ref sig .tc := ⟨.hbm, 478, rfl⟩
abbrev main_v402 : Ref sig .tc := ⟨.hbm, 479, rfl⟩
abbrev main_v403 : Ref sig .tc := ⟨.hbm, 480, rfl⟩
abbrev main_v404 : Ref sig .tc := ⟨.hbm, 481, rfl⟩
abbrev main_v405 : Ref sig .tc := ⟨.hbm, 482, rfl⟩
abbrev main_cst_74 : Ref sig .tc := ⟨.hbm, 483, rfl⟩
abbrev main_v406 : Ref sig .tc := ⟨.hbm, 484, rfl⟩
abbrev main_v407 : Ref sig .tc := ⟨.hbm, 485, rfl⟩
abbrev main_v408 : Ref sig .tc := ⟨.hbm, 486, rfl⟩
abbrev main_v409 : Ref sig .tc := ⟨.hbm, 487, rfl⟩
abbrev main_v410 : Ref sig .tc := ⟨.hbm, 488, rfl⟩
abbrev main_v411 : Ref sig .tc := ⟨.hbm, 489, rfl⟩
abbrev main_cst_75 : Ref sig .tc := ⟨.hbm, 490, rfl⟩
abbrev main_v412 : Ref sig .tc := ⟨.hbm, 491, rfl⟩
abbrev main_v413 : Ref sig .tc := ⟨.hbm, 492, rfl⟩
abbrev main_v414 : Ref sig .tc := ⟨.hbm, 493, rfl⟩
abbrev main_v415 : Ref sig .tc := ⟨.hbm, 494, rfl⟩
abbrev main_v416 : Ref sig .tc := ⟨.hbm, 495, rfl⟩
abbrev main_cst_76 : Ref sig .tc := ⟨.hbm, 496, rfl⟩
abbrev main_v417 : Ref sig .tc := ⟨.hbm, 497, rfl⟩
abbrev main_v418 : Ref sig .tc := ⟨.hbm, 498, rfl⟩
abbrev main_v419 : Ref sig .tc := ⟨.hbm, 499, rfl⟩
abbrev main_v420 : Ref sig .tc := ⟨.hbm, 500, rfl⟩
abbrev main_v421 : Ref sig .tc := ⟨.hbm, 501, rfl⟩
abbrev main_v422 : Ref sig .tc := ⟨.hbm, 502, rfl⟩
abbrev main_cst_77 : Ref sig .tc := ⟨.hbm, 503, rfl⟩
abbrev main_v423 : Ref sig .tc := ⟨.hbm, 504, rfl⟩
abbrev main_v424 : Ref sig .tc := ⟨.hbm, 505, rfl⟩
abbrev main_v425 : Ref sig .tc := ⟨.hbm, 506, rfl⟩
abbrev main_v426 : Ref sig .tc := ⟨.hbm, 507, rfl⟩
abbrev main_v427 : Ref sig .tc := ⟨.hbm, 508, rfl⟩
abbrev main_cst_78 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_v431 : Ref sig .tc := ⟨.hbm, 513, rfl⟩
abbrev main_v432 : Ref sig .tc := ⟨.hbm, 514, rfl⟩
abbrev main_v433 : Ref sig .tc := ⟨.hbm, 515, rfl⟩
abbrev main_cst_79 : Ref sig .tc := ⟨.hbm, 516, rfl⟩
abbrev main_v434 : Ref sig .tc := ⟨.hbm, 517, rfl⟩
abbrev main_v435 : Ref sig .tc := ⟨.hbm, 518, rfl⟩
abbrev main_v436 : Ref sig .tc := ⟨.hbm, 519, rfl⟩
abbrev main_v437 : Ref sig .tc := ⟨.hbm, 520, rfl⟩
abbrev main_v438 : Ref sig .tc := ⟨.hbm, 521, rfl⟩
abbrev main_cst_80 : Ref sig .tc := ⟨.hbm, 522, rfl⟩
abbrev main_v439 : Ref sig .tc := ⟨.hbm, 523, rfl⟩
abbrev main_v440 : Ref sig .tc := ⟨.hbm, 524, rfl⟩
abbrev main_v441 : Ref sig .tc := ⟨.hbm, 525, rfl⟩
abbrev main_v442 : Ref sig .tc := ⟨.hbm, 526, rfl⟩
abbrev main_v443 : Ref sig .tc := ⟨.hbm, 527, rfl⟩
abbrev main_v444 : Ref sig .tc := ⟨.hbm, 528, rfl⟩
abbrev main_v445 : Ref sig .tc := ⟨.hbm, 529, rfl⟩

abbrev nD : Nat := 1
abbrev τ : Topo := Topo.v7x

variable {F : FTy → Type} [FloatOps F]
-- ==== Proof.Names.lean ====
/-
  The names the proof of the kernel body speaks in: strip `b` of a 4096 × 4096 array in HBM (its rows 256 b to
  256 b + 255), slot `s` of the two-slot staging buffer, semaphore `s` of a pair — and the equations saying that
  the slices the body takes at computed offsets are these.
-/
module

public import proofs.«01_k».proof.Defs
public import proofs.«01_k».proof.Proof.Gen.KernelIdeal.Loops
public import proofs.«01_k».proof.Proof.Gen.KernelIdeal.Launch
public import proofs.«01_k».proof.Proof.Gen.KernelIdeal.Regions
public import Idealize.ShloMosaic.Lib.Exec
public import Idealize.ShloMosaic.Lib.Ring
public import Idealize.ShloMosaic.Lib.Affine
public import Idealize.ShloMosaic.Lib.VecWindow
public import Idealize.ShloMosaic.Lib.Tactic

@[expose] public section

set_option maxRecDepth 16384

noncomputable section

namespace Cert.Proof.Sinkhorn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the launch library's, beside the counters the kernel's own transfers ride on. -/
abbrev UU (nD : Nat) (τ : Topo) : Type := UR sig nD τ × Counters
/-- The launch library's share of it. -/
abbrev EP : Emb (UR sig nD τ) (MT nD τ sig Unit (Elt F) ℕ (UU nD τ) ℕ) := embL
/-- No loop variant is needed: every loop is counted. -/
abbrev 𝒱₀ : Variants := Variants.none

/-! ## Strips, slots and semaphores -/

/-- The offsets of strip `b`, -/
abbrev stripOff (b : Fin 16) : Fin 2 → Nat := ![256 * b.val, 0]
/-- A strip lies within the matrix, -/
theorem stripOff_inb (b : Fin 16) : ∀ a, stripOff b a + S256x4096.size a ≤ S4096x4096.size a := by
  have := b.isLt; intro a; fin_cases a
  · show 256 * b.val + 256 ≤ 4096; omega
  · show 0 + 4096 ≤ 4096; omega
/-- of slot `s`, -/
abbrev slotOff (s : Fin 2) : Fin 3 → Nat := ![s.val, 0, 0]
/-- a slot within its pair, -/
theorem slotOff_inb (s : Fin 2) : ∀ a, slotOff s a + S1x256x4096.size a ≤ S2x256x4096.size a := by
  have := s.isLt; intro a; fin_cases a
  · show s.val + 1 ≤ 2; omega
  · show 0 + 256 ≤ 256; omega
  · show 0 + 4096 ≤ 4096; omega
/-- of semaphore `s` of a pair. -/
abbrev semOff (s : Fin 2) : Fin 1 → Nat := ![s.val]
/-- a semaphore within its pair. -/
theorem semOff_inb (s : Fin 2) : ∀ a, semOff s a + S1.size a ≤ S2.size a := by
  have := s.isLt; intro a; fin_cases a; show s.val + 1 ≤ 2; omega

/-- Strip `b` of an array in HBM. -/
def strip (M : Memref sig .tc .hbm S4096x4096 .f32) (b : Fin 16) : Memref sig .tc .hbm S256x4096 .f32 :=
  M.slice (Rect.unit (s := S4096x4096) (stripOff b) S256x4096.size (stripOff_inb b)) (fun _ => rfl)
/-- Slot `s` of the staging buffer. -/
def slot (M : Memref sig .tc .vmem S2x256x4096 .f32) (s : Fin 2) : Memref sig .tc .vmem S256x4096 .f32 :=
  (M.slice (Rect.unit (s := S2x256x4096) (slotOff s) S1x256x4096.size (slotOff_inb s)) (fun _ => rfl)).squeeze S256x4096 squeezes_S1x256x4096_S256x4096
/-- Semaphore `s` of a pair. -/
def csem (A : DmaSems sig S2) (s : Fin 2) : DmaSems sig S_ :=
  (A.slice (Rect.unit (s := S2) (semOff s) S1.size (semOff_inb s))).squeeze S_ squeezes_S1_S_

/-- A slot's offset is in closed form; -/
instance (s : Fin 2) : ClosedOff (slotOff s) := ⟨slotOff s, rfl⟩
/-- so is a strip's. -/
instance (b : Fin 16) : ClosedOff (stripOff b) := ⟨stripOff b, rfl⟩

/-! ## The offsets the body computes, in closed form -/

/-- The number of trips of loop 1. -/
theorem trips1 : k0_t1_loop.trips = 16 := by decide
/-- The number of trips of loop 2. -/
theorem trips2 : k0_t2_loop.trips = 10 := by decide
/-- The number of trips of loop 3. -/
theorem trips3 : k0_t3_loop.trips = 256 := by decide
/-- The number of trips of loop 4. -/
theorem trips4 : k0_t4_loop.trips = 64 := by decide
/-- The number of trips of loop 5. -/
theorem trips5 : k0_t5_loop.trips = 64 := by decide
/-- The number of trips of loop 6. -/
theorem trips6 : k0_t6_loop.trips = 16 := by decide

/-- Where the offset 1 points. -/
theorem off1_eq : ∀ k : Fin k0_t1_loop.trips, k0_off1 k = semOff (Ring.sl 2 (k.val + 1)) := by decide +kernel
/-- Where the offset 2 points. -/
theorem off2_eq : ∀ k : Fin k0_t1_loop.trips, k0_off2 k = slotOff (Ring.sl 2 (k.val + 1)) := by decide +kernel
/-- Where the offset 3 points. -/
theorem off3_eq : ∀ k : Fin k0_t1_loop.trips, k.val + 1 < 16 → k0_off3 k = stripOff (Ring.bk 16 (k.val + 1)) := by decide +kernel
/-- Where the offset 4 points. -/
theorem off4_eq : ∀ k : Fin k0_t1_loop.trips, k0_off4 k = semOff (Ring.sl 2 k.val) := by decide +kernel
/-- Where the offset 5 points. -/
theorem off5_eq : ∀ k : Fin k0_t1_loop.trips, k0_off5 k = slotOff (Ring.sl 2 k.val) := by decide +kernel
/-- Where the offset 6 points. -/
theorem off6_eq : ∀ k : Fin k0_t1_loop.trips, k0_off6 k = stripOff (Ring.bk 16 k.val) := by decide +kernel
/-- Where the offset 7 points. -/
theorem off7_eq : ∀ k : Fin k0_t1_loop.trips, k0_off7 k = slotOff (Ring.sl 2 k.val) := by decide +kernel
/-- Where the offset 8 points. -/
theorem off8_eq : ∀ k : Fin k0_t1_loop.trips, k0_off8 k = ![256 * k.val, 0] := by decide +kernel
/-- When the condition 1 holds. -/
theorem cond1_iff : ∀ k : Fin k0_t1_loop.trips, k0_cond1 k = 1#1 ↔ k.val + 1 < 16 := by decide +kernel

/-- Where the offset 9 points. -/
theorem off9_eq : ∀ k : Fin k0_t3_loop.trips, k0_off9 k = ![16 * k.val, 0] := by decide +kernel
/-- Where the offset 10 points. -/
theorem off10_eq : ∀ k : Fin k0_t3_loop.trips, k0_off10 k = ![16 * k.val, 2048] := by decide +kernel
/-- Where the offset 11 points. -/
theorem off11_eq : ∀ k : Fin k0_t3_loop.trips, k0_off11 k = ![16 * k.val, 0] := by decide +kernel

/-- Where the offset 12 points. -/
theorem off12_eq : ∀ k : Fin k0_t4_loop.trips, k0_off12 k = ![16 * (4 * k.val), 0] := by decide +kernel
/-- Where the offset 13 points. -/
theorem off13_eq : ∀ k : Fin k0_t4_loop.trips, k0_off13 k = ![16 * (4 * k.val), 0] := by decide +kernel
/-- Where the offset 16 points. -/
theorem off16_eq : ∀ k : Fin k0_t5_loop.trips, k0_off16 k = ![16 * (4 * k.val), 2048] := by decide +kernel
/-- Where the offset 17 points. -/
theorem off17_eq : ∀ k : Fin k0_t5_loop.trips, k0_off17 k = ![16 * (4 * k.val), 0] := by decide +kernel
/-- Where the offset 14 points in the unrolled trip 1. -/
theorem off14_1 : ∀ k : Fin k0_t4_loop.trips, k0_off14 k 1#32 = ![16 * (4 * k.val + 1), 0] := by decide +kernel
/-- Where the offset 14 points in the unrolled trip 2. -/
theorem off14_2 : ∀ k : Fin k0_t4_loop.trips, k0_off14 k 2#32 = ![16 * (4 * k.val + 2), 0] := by decide +kernel
/-- Where the offset 14 points in the unrolled trip 3. -/
theorem off14_3 : ∀ k : Fin k0_t4_loop.trips, k0_off14 k 3#32 = ![16 * (4 * k.val + 3), 0] := by decide +kernel
/-- Where the offset 15 points in the unrolled trip 1. -/
theorem off15_1 : ∀ k : Fin k0_t4_loop.trips, k0_off15 k 1#32 = ![16 * (4 * k.val + 1), 0] := by decide +kernel
/-- Where the offset 15 points in the unrolled trip 2. -/
theorem off15_2 : ∀ k : Fin k0_t4_loop.trips, k0_off15 k 2#32 = ![16 * (4 * k.val + 2), 0] := by decide +kernel
/-- Where the offset 15 points in the unrolled trip 3. -/
theorem off15_3 : ∀ k : Fin k0_t4_loop.trips, k0_off15 k 3#32 = ![16 * (4 * k.val + 3), 0] := by decide +kernel
/-- Where the offset 18 points in the unrolled trip 1. -/
theorem off18_1 : ∀ k : Fin k0_t5_loop.trips, k0_off18 k 1#32 = ![16 * (4 * k.val + 1), 2048] := by decide +kernel
/-- Where the offset 18 points in the unrolled trip 2. -/
theorem off18_2 : ∀ k : Fin k0_t5_loop.trips, k0_off18 k 2#32 = ![16 * (4 * k.val + 2), 2048] := by decide +kernel
/-- Where the offset 18 points in the unrolled trip 3. -/
theorem off18_3 : ∀ k : Fin k0_t5_loop.trips, k0_off18 k 3#32 = ![16 * (4 * k.val + 3), 2048] := by decide +kernel
/-- Where the offset 19 points in the unrolled trip 1. -/
theorem off19_1 : ∀ k : Fin k0_t5_loop.trips, k0_off19 k 1#32 = ![16 * (4 * k.val + 1), 0] := by decide +kernel
/-- Where the offset 19 points in the unrolled trip 2. -/
theorem off19_2 : ∀ k : Fin k0_t5_loop.trips, k0_off19 k 2#32 = ![16 * (4 * k.val + 2), 0] := by decide +kernel
/-- Where the offset 19 points in the unrolled trip 3. -/
theorem off19_3 : ∀ k : Fin k0_t5_loop.trips, k0_off19 k 3#32 = ![16 * (4 * k.val + 3), 0] := by decide +kernel

/-- Where the offset 20 points. -/
theorem off20_eq : ∀ k : Fin k0_t6_loop.trips, k0_off20 k = semOff (Ring.sl 2 k.val) := by decide +kernel
/-- Where the offset 21 points. -/
theorem off21_eq : ∀ k : Fin k0_t6_loop.trips, 2 ≤ k.val → k0_off21 k = stripOff (Ring.bk 16 (k.val - 2)) := by decide +kernel
/-- Where the offset 22 points. -/
theorem off22_eq : ∀ k : Fin k0_t6_loop.trips, k0_off22 k = slotOff (Ring.sl 2 k.val) := by decide +kernel
/-- Where the offset 23 points. -/
theorem off23_eq : ∀ (k : Fin k0_t6_loop.trips) (r : Fin 16), k0_off23 k (BitVec.ofNat 32 r.val) = ![256 * k.val + 16 * r.val, 0] := by decide +kernel
/-- Where the offset 24 points. -/
theorem off24_eq : ∀ (k : Fin k0_t6_loop.trips) (r : Fin 16), k0_off24 k (BitVec.ofNat 32 r.val) = ![256 * k.val + 16 * r.val, 0] := by decide +kernel
/-- Where the offset 25 points. -/
theorem off25_eq : ∀ (k : Fin k0_t6_loop.trips) (r : Fin 16), k0_off25 k (BitVec.ofNat 32 r.val) = ![(Ring.sl 2 k.val).val, 16 * r.val, 0] := by decide +kernel
/-- Where the offset 26 points. -/
theorem off26_eq : ∀ k : Fin k0_t6_loop.trips, k0_off26 k = semOff (Ring.sl 2 k.val) := by decide +kernel
/-- Where the offset 27 points. -/
theorem off27_eq : ∀ k : Fin k0_t6_loop.trips, k0_off27 k = stripOff (Ring.bk 16 k.val) := by decide +kernel
/-- Where the offset 28 points. -/
theorem off28_eq : ∀ k : Fin k0_t6_loop.trips, k0_off28 k = slotOff (Ring.sl 2 k.val) := by decide +kernel
/-- When the condition 2 holds. -/
theorem cond2_iff : ∀ k : Fin k0_t6_loop.trips, k0_cond2 k = 1#1 ↔ 2 ≤ k.val := by decide +kernel

/-- The slot the next copy in fills, in closed form. -/
instance (k : Fin k0_t1_loop.trips) : ClosedOff (k0_off2 k) := ⟨slotOff (Ring.sl 2 (k.val + 1)), off2_eq k⟩
/-- The slot a copy in has filled, in closed form. -/
instance (k : Fin k0_t1_loop.trips) : ClosedOff (k0_off5 k) := ⟨slotOff (Ring.sl 2 k.val), off5_eq k⟩
/-- The slot a turn of the fill reads, in closed form. -/
instance (k : Fin k0_t1_loop.trips) : ClosedOff (k0_off7 k) := ⟨slotOff (Ring.sl 2 k.val), off7_eq k⟩
/-- Where piece 0 of a strip is written, in closed form. -/
instance (k : Fin k0_t6_loop.trips) : ClosedOff (k0_off25 k 0#32) := ⟨![(Ring.sl 2 k.val).val, 0, 0], off25_eq k 0⟩
/-- Where piece 1 of a strip is written, in closed form. -/
instance (k : Fin k0_t6_loop.trips) : ClosedOff (k0_off25 k 1#32) := ⟨![(Ring.sl 2 k.val).val, 16, 0], off25_eq k 1⟩
/-- Where piece 2 of a strip is written, in closed form. -/
instance (k : Fin k0_t6_loop.trips) : ClosedOff (k0_off25 k 2#32) := ⟨![(Ring.sl 2 k.val).val, 32, 0], off25_eq k 2⟩
/-- Where piece 3 of a strip is written, in closed form. -/
instance (k : Fin k0_t6_loop.trips) : ClosedOff (k0_off25 k 3#32) := ⟨![(Ring.sl 2 k.val).val, 48, 0], off25_eq k 3⟩
/-- Where piece 4 of a strip is written, in closed form. -/
instance (k : Fin k0_t6_loop.trips) : ClosedOff (k0_off25 k 4#32) := ⟨![(Ring.sl 2 k.val).val, 64, 0], off25_eq k 4⟩
/-- Where piece 5 of a strip is written, in closed form. -/
instance (k : Fin k0_t6_loop.trips) : ClosedOff (k0_off25 k 5#32) := ⟨![(Ring.sl 2 k.val).val, 80, 0], off25_eq k 5⟩
/-- Where piece 6 of a strip is written, in closed form. -/
instance (k : Fin k0_t6_loop.trips) : ClosedOff (k0_off25 k 6#32) := ⟨![(Ring.sl 2 k.val).val, 96, 0], off25_eq k 6⟩
/-- Where piece 7 of a strip is written, in closed form. -/
instance (k : Fin k0_t6_loop.trips) : ClosedOff (k0_off25 k 7#32) := ⟨![(Ring.sl 2 k.val).val, 112, 0], off25_eq k 7⟩
/-- Where piece 8 of a strip is written, in closed form. -/
instance (k : Fin k0_t6_loop.trips) : ClosedOff (k0_off25 k 8#32) := ⟨![(Ring.sl 2 k.val).val, 128, 0], off25_eq k 8⟩
/-- Where piece 9 of a strip is written, in closed form. -/
instance (k : Fin k0_t6_loop.trips) : ClosedOff (k0_off25 k 9#32) := ⟨![(Ring.sl 2 k.val).val, 144, 0], off25_eq k 9⟩
/-- Where piece 10 of a strip is written, in closed form. -/
instance (k : Fin k0_t6_loop.trips) : ClosedOff (k0_off25 k 10#32) := ⟨![(Ring.sl 2 k.val).val, 160, 0], off25_eq k 10⟩
/-- Where piece 11 of a strip is written, in closed form. -/
instance (k : Fin k0_t6_loop.trips) : ClosedOff (k0_off25 k 11#32) := ⟨![(Ring.sl 2 k.val).val, 176, 0], off25_eq k 11⟩
/-- Where piece 12 of a strip is written, in closed form. -/
instance (k : Fin k0_t6_loop.trips) : ClosedOff (k0_off25 k 12#32) := ⟨![(Ring.sl 2 k.val).val, 192, 0], off25_eq k 12⟩
/-- Where piece 13 of a strip is written, in closed form. -/
instance (k : Fin k0_t6_loop.trips) : ClosedOff (k0_off25 k 13#32) := ⟨![(Ring.sl 2 k.val).val, 208, 0], off25_eq k 13⟩
/-- Where piece 14 of a strip is written, in closed form. -/
instance (k : Fin k0_t6_loop.trips) : ClosedOff (k0_off25 k 14#32) := ⟨![(Ring.sl 2 k.val).val, 224, 0], off25_eq k 14⟩
/-- Where piece 15 of a strip is written, in closed form. -/
instance (k : Fin k0_t6_loop.trips) : ClosedOff (k0_off25 k 15#32) := ⟨![(Ring.sl 2 k.val).val, 240, 0], off25_eq k 15⟩

/-! ## The slices are the names -/

section Canon

variable (A : DmaSems sig S2) (M : Memref sig .tc .hbm S4096x4096 .f32) (B : Memref sig .tc .vmem S2x256x4096 .f32)

/-- A semaphore of a pair, by where it lies; -/
theorem csem_congr {off : Fin 1 → Nat} {s : Fin 2} (e : off = semOff s) (hh) :
    (A.slice (Rect.unit (s := S2) off S1.size hh)).squeeze S_ squeezes_S1_S_ = csem A s :=
  congrArg (fun A : DmaSems sig S1 => A.squeeze S_ squeezes_S1_S_) (SemArray.slice_unit_congr _ e _ _)
/-- a slot, by where it lies; -/
theorem slot_congr {off : Fin 3 → Nat} {s : Fin 2} (e : off = slotOff s) (hh hs) :
    (B.slice (Rect.unit (s := S2x256x4096) off S1x256x4096.size hh) hs).squeeze S256x4096 squeezes_S1x256x4096_S256x4096 = slot B s :=
  congrArg (fun M : Memref sig .tc .vmem S1x256x4096 .f32 => M.squeeze S256x4096 squeezes_S1x256x4096_S256x4096) (Memref.slice_unit_congr _ e _ _ _ _)
/-- a strip, by where it lies. -/
theorem strip_congr {off : Fin 2 → Nat} {b : Fin 16} (e : off = stripOff b) (hh hs) :
    M.slice (Rect.unit (s := S4096x4096) off S256x4096.size hh) hs = strip M b :=
  Memref.slice_unit_congr _ e _ _ _ (fun _ => rfl)

/-- The semaphore 0 at its literal offset. -/
@[sl_canon] theorem sem_lit0 (hh) : (A.slice (Rect.unit (s := S2) ![0] S1.size hh)).squeeze S_ squeezes_S1_S_ = csem A 0 := csem_congr A (by decide) _
/-- The semaphore 1 at its literal offset. -/
@[sl_canon] theorem sem_lit1 (hh) : (A.slice (Rect.unit (s := S2) ![1] S1.size hh)).squeeze S_ squeezes_S1_S_ = csem A 1 := csem_congr A (by decide) _
/-- The slot 0 at its literal offset. -/
@[sl_canon] theorem slot_lit0 (hh hs) : (B.slice (Rect.unit (s := S2x256x4096) ![0, 0, 0] S1x256x4096.size hh) hs).squeeze S256x4096 squeezes_S1x256x4096_S256x4096 = slot B 0 := slot_congr B (by decide) _ _
/-- The slot 1 at its literal offset. -/
@[sl_canon] theorem slot_lit1 (hh hs) : (B.slice (Rect.unit (s := S2x256x4096) ![1, 0, 0] S1x256x4096.size hh) hs).squeeze S256x4096 squeezes_S1x256x4096_S256x4096 = slot B 1 := slot_congr B (by decide) _ _
/-- The strip 0 at its literal offset. -/
@[sl_canon] theorem strip_lit0 (hh hs) : M.slice (Rect.unit (s := S4096x4096) ![0, 0] S256x4096.size hh) hs = strip M 0 := strip_congr M (by decide) _ _
/-- The strip 14 at its literal offset. -/
@[sl_canon] theorem strip_lit14 (hh hs) : M.slice (Rect.unit (s := S4096x4096) ![3584, 0] S256x4096.size hh) hs = strip M 14 := strip_congr M (by decide) _ _
/-- The strip 15 at its literal offset. -/
@[sl_canon] theorem strip_lit15 (hh hs) : M.slice (Rect.unit (s := S4096x4096) ![3840, 0] S256x4096.size hh) hs = strip M 15 := strip_congr M (by decide) _ _

/-- The semaphore at offset 1. -/
@[sl_canon] theorem sem1 (k : Fin k0_t1_loop.trips) (hh) :
    (A.slice (Rect.unit (s := S2) (k0_off1 k) S1.size hh)).squeeze S_ squeezes_S1_S_ = csem A (Ring.sl 2 (k.val + 1)) := csem_congr A (off1_eq k) _
/-- The slot at offset 2. -/
@[sl_canon] theorem slot2 (k : Fin k0_t1_loop.trips) (hh hs) :
    (B.slice (Rect.unit (s := S2x256x4096) (k0_off2 k) S1x256x4096.size hh) hs).squeeze S256x4096 squeezes_S1x256x4096_S256x4096 = slot B (Ring.sl 2 (k.val + 1)) := slot_congr B (off2_eq k) _ _
/-- The strip at offset 3. -/
@[sl_canon] theorem strip3 (k : Fin k0_t1_loop.trips) (hk : k.val + 1 < 16) (hh hs) :
    M.slice (Rect.unit (s := S4096x4096) (k0_off3 k) S256x4096.size hh) hs = strip M (Ring.bk 16 (k.val + 1)) := strip_congr M (off3_eq k hk) _ _
/-- The semaphore at offset 4. -/
@[sl_canon] theorem sem4 (k : Fin k0_t1_loop.trips) (hh) :
    (A.slice (Rect.unit (s := S2) (k0_off4 k) S1.size hh)).squeeze S_ squeezes_S1_S_ = csem A (Ring.sl 2 k.val) := csem_congr A (off4_eq k) _
/-- The slot at offset 5. -/
@[sl_canon] theorem slot5 (k : Fin k0_t1_loop.trips) (hh hs) :
    (B.slice (Rect.unit (s := S2x256x4096) (k0_off5 k) S1x256x4096.size hh) hs).squeeze S256x4096 squeezes_S1x256x4096_S256x4096 = slot B (Ring.sl 2 k.val) := slot_congr B (off5_eq k) _ _
/-- The strip at offset 6. -/
@[sl_canon] theorem strip6 (k : Fin k0_t1_loop.trips) (hh hs) :
    M.slice (Rect.unit (s := S4096x4096) (k0_off6 k) S256x4096.size hh) hs = strip M (Ring.bk 16 k.val) := strip_congr M (off6_eq k) _ _

/-- The semaphore at offset 20. -/
@[sl_canon] theorem sem20 (k : Fin k0_t6_loop.trips) (hh) :
    (A.slice (Rect.unit (s := S2) (k0_off20 k) S1.size hh)).squeeze S_ squeezes_S1_S_ = csem A (Ring.sl 2 k.val) := csem_congr A (off20_eq k) _
/-- The strip at offset 21. -/
@[sl_canon] theorem strip21 (k : Fin k0_t6_loop.trips) (hk : 2 ≤ k.val) (hh hs) :
    M.slice (Rect.unit (s := S4096x4096) (k0_off21 k) S256x4096.size hh) hs = strip M (Ring.bk 16 (k.val - 2)) := strip_congr M (off21_eq k hk) _ _
/-- The slot at offset 22. -/
@[sl_canon] theorem slot22 (k : Fin k0_t6_loop.trips) (hh hs) :
    (B.slice (Rect.unit (s := S2x256x4096) (k0_off22 k) S1x256x4096.size hh) hs).squeeze S256x4096 squeezes_S1x256x4096_S256x4096 = slot B (Ring.sl 2 k.val) := slot_congr B (off22_eq k) _ _
/-- The semaphore at offset 26. -/
@[sl_canon] theorem sem26 (k : Fin k0_t6_loop.trips) (hh) :
    (A.slice (Rect.unit (s := S2) (k0_off26 k) S1.size hh)).squeeze S_ squeezes_S1_S_ = csem A (Ring.sl 2 k.val) := csem_congr A (off26_eq k) _
/-- The strip at offset 27. -/
@[sl_canon] theorem strip27 (k : Fin k0_t6_loop.trips) (hh hs) :
    M.slice (Rect.unit (s := S4096x4096) (k0_off27 k) S256x4096.size hh) hs = strip M (Ring.bk 16 k.val) := strip_congr M (off27_eq k) _ _
/-- The slot at offset 28. -/
@[sl_canon] theorem slot28 (k : Fin k0_t6_loop.trips) (hh hs) :
    (B.slice (Rect.unit (s := S2x256x4096) (k0_off28 k) S1x256x4096.size hh) hs).squeeze S256x4096 squeezes_S1x256x4096_S256x4096 = slot B (Ring.sl 2 k.val) := slot_congr B (off28_eq k) _ _

end Canon

end Cert.Proof.Sinkhorn

end
-- ==== Proof.Iter.lean ====
/-
  One iteration: the row scalings recomputed piece by piece from the column scalings, then the column scalings from the row scalings.
-/
module

public import proofs.«01_k».proof.Proof.Names

@[expose] public section

set_option maxRecDepth 16384

noncomputable section

namespace Cert.Proof.Sinkhorn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Buffer `M` held whole, its elements the vector `X`. -/
abbrev holds (c : Dev nD) {sp : Space} {S : Shape} {e : EltTy} (M : Memref sig .tc sp S e) (X : S.Idx → Elt F e) : sProp 𝕄 :=
  M.view.loc (c : Thread nD τ) ↦[M.view.set]{fullShare} M.view.rep X

/-! ## The rows the row loops address -/

/-- Sixteen rows by half the columns lie within the matrix; -/
theorem row16_inb {w o : ℕ} (hw : o + w ≤ 4096) (i : ℕ) (hi : i < 256) (h : w = S16x2048.size 1) :
    ∀ a, (![16 * i, o] : Fin 2 → ℕ) a + S16x2048.size a ≤ S4096x4096.size a := by
  intro a; fin_cases a
  · show 16 * i + 16 ≤ 4096; omega
  · subst h; exact hw
/-- Rows `16 i` to `16 i + 15` of the kernel matrix, its left 2048 columns, -/
def kL (K : Vec F S4096x4096 .bf16) (i : Fin 256) : Vec F S16x2048 .bf16 :=
  VecWindow.window K ![16 * i.val, 0] S16x2048.size (row16_inb (by decide) i.val i.isLt rfl)
/-- its right 2048 columns, -/
def kR (K : Vec F S4096x4096 .bf16) (i : Fin 256) : Vec F S16x2048 .bf16 :=
  VecWindow.window K ![16 * i.val, 2048] S16x2048.size (row16_inb (by decide) i.val i.isLt rfl)

/-- sixteen row scalings within theirs. -/
theorem col16_inb (i : Fin 256) : ∀ a, (![16 * i.val, 0] : Fin 2 → ℕ) a + S16x1.size a ≤ S4096x1.size a := by
  have := i.isLt; intro a; fin_cases a
  · show 16 * i.val + 16 ≤ 4096; omega
  · show 0 + 1 ≤ 1; omega
/-- the same rows of the column of row scalings. -/
def uC (U : Vec F S4096x1 .bf16) (i : Fin 256) : Vec F S16x1 .bf16 :=
  VecWindow.window U ![16 * i.val, 0] S16x1.size (col16_inb i)

/-- The row scalings with rows `16 i` to `16 i + 15` recomputed from the column scalings. -/
def uPut (K : Vec F S4096x4096 .bf16) (V : Vec F S16x4096 .bf16) (i : Fin 256) (U : Vec F S4096x1 .bf16) : Vec F S4096x1 .bf16 :=
  VecWindow.put U ![16 * i.val, 0] S16x1.size (k0_pay24 V (kL K i) (kR K i))
/-- The row scalings after `k` such steps. -/
def uAcc (K : Vec F S4096x4096 .bf16) (V : Vec F S16x4096 .bf16) (U : Vec F S4096x1 .bf16) : ℕ → Vec F S4096x1 .bf16
  | 0 => U
  | k + 1 => if h : k < 256 then uPut K V ⟨k, h⟩ (uAcc K V U k) else uAcc K V U k

/-- Row `4 j + r` of the sixteen-row pieces. -/
def r4 (j : Fin 64) (r : Fin 4) : Fin 256 := ⟨4 * j.val + r.val, by omega⟩
/-- The left half's partial column sums with rows `64 j` to `64 j + 63` added, -/
def accL (K : Vec F S4096x4096 .bf16) (U : Vec F S4096x1 .bf16) (j : Fin 64) (acc : FVec F S8x2048 .f32) : FVec F S8x2048 .f32 :=
  k0_pay26 acc
    (k0_pay1 (kL K (r4 j 0)) (uC U (r4 j 0)) (kL K (r4 j 1)) (uC U (r4 j 1)) (kL K (r4 j 2)) (uC U (r4 j 2)) (kL K (r4 j 3)) (uC U (r4 j 3)))
    (k0_pay2 (kL K (r4 j 0)) (uC U (r4 j 0)) (kL K (r4 j 1)) (uC U (r4 j 1)) (kL K (r4 j 2)) (uC U (r4 j 2)) (kL K (r4 j 3)) (uC U (r4 j 3)))
/-- and the right half's. -/
def accR (K : Vec F S4096x4096 .bf16) (U : Vec F S4096x1 .bf16) (j : Fin 64) (acc : FVec F S8x2048 .f32) : FVec F S8x2048 .f32 :=
  k0_pay28 acc
    (k0_pay3 (kR K (r4 j 0)) (uC U (r4 j 0)) (kR K (r4 j 1)) (uC U (r4 j 1)) (kR K (r4 j 2)) (uC U (r4 j 2)) (kR K (r4 j 3)) (uC U (r4 j 3)))
    (k0_pay4 (kR K (r4 j 0)) (uC U (r4 j 0)) (kR K (r4 j 1)) (uC U (r4 j 1)) (kR K (r4 j 2)) (uC U (r4 j 2)) (kR K (r4 j 3)) (uC U (r4 j 3)))
/-- The left half's partial sums after `k` such steps, -/
def sumL (K : Vec F S4096x4096 .bf16) (U : Vec F S4096x1 .bf16) : ℕ → FVec F S8x2048 .f32
  | 0 => k0_pay25
  | k + 1 => if h : k < 64 then accL K U ⟨k, h⟩ (sumL K U k) else sumL K U k
/-- and the right half's. -/
def sumR (K : Vec F S4096x4096 .bf16) (U : Vec F S4096x1 .bf16) : ℕ → FVec F S8x2048 .f32
  | 0 => k0_pay27
  | k + 1 => if h : k < 64 then accR K U ⟨k, h⟩ (sumR K U k) else sumR K U k
/-- The column scalings from the row scalings, rounded for the next row update, -/
def vNext (K : Vec F S4096x4096 .bf16) (U : Vec F S4096x1 .bf16) : Vec F S16x4096 .bf16 := k0_pay30 (sumL K U 64) (sumR K U 64)
/-- and kept at full precision. -/
def wNext (K : Vec F S4096x4096 .bf16) (U : Vec F S4096x1 .bf16) : Vec F S16x4096 .f32 := k0_pay31 (sumL K U 64) (sumR K U 64)

/-! ## What the loads read and the stores leave -/

/-- A load of the left half of sixteen rows, -/
theorem ld_kL (M : Memref sig .tc .vmem S4096x4096 .bf16) (K : Vec F S4096x4096 .bf16) {off : Fin 2 → ℕ} (i : Fin 256) (h : off = ![16 * i.val, 0]) (inb) :
    M.view.readAt (Elt F) (Rect.unit (s := S4096x4096) off S16x2048.size inb).toLoadRect (M.view.rep K) = kL K i :=
  View.readAt_rep_unit _ _ _ h _
/-- of the right half, -/
theorem ld_kR (M : Memref sig .tc .vmem S4096x4096 .bf16) (K : Vec F S4096x4096 .bf16) {off : Fin 2 → ℕ} (i : Fin 256) (h : off = ![16 * i.val, 2048]) (inb) :
    M.view.readAt (Elt F) (Rect.unit (s := S4096x4096) off S16x2048.size inb).toLoadRect (M.view.rep K) = kR K i :=
  View.readAt_rep_unit _ _ _ h _
/-- of sixteen row scalings, -/
theorem ld_uC (M : Memref sig .tc .vmem S4096x1 .bf16) (U : Vec F S4096x1 .bf16) {off : Fin 2 → ℕ} (i : Fin 256) (h : off = ![16 * i.val, 0]) (inb) :
    M.view.readAt (Elt F) (Rect.unit (s := S4096x1) off S16x1.size inb).toLoadRect (M.view.rep U) = uC U i :=
  View.readAt_rep_unit _ _ _ h _
/-- and of a whole array. -/
theorem ld_full {sp : Space} {S : Shape} {e : EltTy} (M : Memref sig .tc sp S e) (X : Vec F S e) {off : Fin S.rank → ℕ} (inb) :
    M.view.readAt (Elt F) (Rect.unit (s := S) off S.size inb).toLoadRect (M.view.rep X) = X :=
  View.readAt_rep_full _ _ _

/-- The rows of step `k`, -/
abbrev i3 (k : Fin k0_t3_loop.trips) : Fin 256 := Fin.cast trips3 k
/-- A trip of the loop over left halves, as a number below 64; -/
abbrev i4 (k : Fin k0_t4_loop.trips) : Fin 64 := Fin.cast trips4 k
/-- of the loop over right halves. -/
abbrev i5 (k : Fin k0_t5_loop.trips) : Fin 64 := Fin.cast trips5 k

/-- A store of sixteen row scalings, as a step of the row update. -/
theorem st_u (M : Memref sig .tc .vmem S4096x1 .bf16) (K : Vec F S4096x4096 .bf16) (V : Vec F S16x4096 .bf16) (U : Vec F S4096x1 .bf16)
    {off : Fin 2 → ℕ} (i : Fin 256) (h : off = ![16 * i.val, 0]) (inb) (v : Vec F S16x4096 .bf16) (a b : Vec F S16x2048 .bf16)
    (hv : v = V) (ha : a = kL K i) (hb : b = kR K i) :
    M.view.read (Elt F) (M.view.writes (Elt F) (M.view.rep U) [⟨Rect.unit (s := S4096x1) off S16x1.size inb, k0_pay24 v a b⟩]) = uPut K V i U := by
  subst hv ha hb
  exact View.read_writes_rep_unit _ _ _ _ h

/-- A buffer stored whole holds what was stored. -/
theorem holds_full (c : Dev nD) {sp : Space} {S : Shape} {e : EltTy} {M : Memref sig .tc sp S e} {f : Buf (Elt F) (M.view.loc (c : Thread nD τ))}
    {off : Fin S.rank → ℕ} {inb : ∀ a, off a + S.size a ≤ S.size a} {w : Vec F S e} :
    (M.view.loc (c : Thread nD τ) ↦[M.view.set]{fullShare} M.view.writes (Elt F) f [⟨Rect.unit (s := S) off S.size inb, w⟩] : sProp 𝕄) ⊢ holds c M w :=
  pointsTo_rep_of_read (c : Thread nD τ) M _ _ _ (View.read_writes_full M.view f inb w [])

section Loops

variable (c : Dev nD)
  (arg0 : Memref sig .tc .hbm S4096x4096 .f32) (harg0 : arg0.IsWhole) (arg1 : Memref sig .tc .hbm S4096x4096 .f32) (harg1 : arg1.IsWhole)
  (arg2 : Memref sig .tc .vmem S4096x4096 .bf16) (harg2 : arg2.IsWhole) (arg3 : Memref sig .tc .vmem S2x256x4096 .f32) (harg3 : arg3.IsWhole)
  (arg4 : Memref sig .tc .vmem S16x4096 .bf16) (harg4 : arg4.IsWhole) (arg5 : Memref sig .tc .vmem S16x4096 .f32) (harg5 : arg5.IsWhole)
  (arg6 : Memref sig .tc .vmem S4096x1 .bf16) (harg6 : arg6.IsWhole) (arg7 : DmaSems sig S2) (arg8 : DmaSems sig S2)
  (K : Vec F S4096x4096 .bf16)

/-- One trip of the row update. -/
theorem trip3 (k : Fin k0_t3_loop.trips) (V : Vec F S16x4096 .bf16) (U : Vec F S4096x1 .bf16) :
    iprop(holds c arg2 K ∗ holds c arg4 V ∗ holds c arg6 U)
      ⊢ wp frame (wpE (defs₀ (F := F)) 𝒱₀ (c : Thread nD τ) none) Set.univ
          (k0_t3_body arg0 harg0 arg1 harg1 arg2 harg2 arg3 harg3 arg4 harg4 arg5 harg5 arg6 harg6 arg7 arg8 k ())
          (fun _ => iprop(holds c arg2 K ∗ holds c arg4 V ∗ holds c arg6 (uPut K V (i3 k) U))) := by
  iintro ⟨HK, HV, HU⟩
  sl_unfold [k0_t3_body]
  sl_exec
  sl_step
  isplitl [HK]; · iexact HK
  isplitl [HV]; · iexact HV
  iapply (pointsTo_rep_of_read (c : Thread nD τ) arg6 _ _ _ (st_u arg6 K V U (i3 k) (off11_eq k) _ _ _ _
    (ld_full arg4 V _) (ld_kL arg2 K (i3 k) (off9_eq k) _) (ld_kR arg2 K (i3 k) (off10_eq k) _)))
  iexact HU

/-- One trip of the left half of the column sums. -/
theorem trip4 (k : Fin k0_t4_loop.trips) (U : Vec F S4096x1 .bf16) (acc : FVec F S8x2048 .f32) :
    iprop(holds c arg2 K ∗ holds c arg6 U)
      ⊢ wp frame (wpE (defs₀ (F := F)) 𝒱₀ (c : Thread nD τ) none) Set.univ
          (k0_t4_body arg0 harg0 arg1 harg1 arg2 harg2 arg3 harg3 arg4 harg4 arg5 harg5 arg6 harg6 arg7 arg8 k acc)
          (fun r => iprop(holds c arg2 K ∗ holds c arg6 U ∗ ⌜r = accL K U (i4 k) acc⌝)) := by
  iintro ⟨HK, HU⟩
  sl_unfold [k0_t4_body]
  rw [k0_part1_eq_skeleton]
  sl_unfold [k0_part1_skel]
  sl_exec
  sl_step
  isplitl [HK]; · iexact HK
  isplitl [HU]; · iexact HU
  ipureintro
  rw [ld_kL arg2 K (r4 (i4 k) 0) (off12_eq k),
    ld_uC arg6 U (r4 (i4 k) 0) (off13_eq k),
    ld_kL arg2 K (r4 (i4 k) 1) (off14_1 k),
    ld_uC arg6 U (r4 (i4 k) 1) (off15_1 k),
    ld_kL arg2 K (r4 (i4 k) 2) (off14_2 k),
    ld_uC arg6 U (r4 (i4 k) 2) (off15_2 k),
    ld_kL arg2 K (r4 (i4 k) 3) (off14_3 k),
    ld_uC arg6 U (r4 (i4 k) 3) (off15_3 k)]
  rfl

/-- One trip of the right half of the column sums. -/
theorem trip5 (k : Fin k0_t5_loop.trips) (U : Vec F S4096x1 .bf16) (acc : FVec F S8x2048 .f32) :
    iprop(holds c arg2 K ∗ holds c arg6 U)
      ⊢ wp frame (wpE (defs₀ (F := F)) 𝒱₀ (c : Thread nD τ) none) Set.univ
          (k0_t5_body arg0 harg0 arg1 harg1 arg2 harg2 arg3 harg3 arg4 harg4 arg5 harg5 arg6 harg6 arg7 arg8 k acc)
          (fun r => iprop(holds c arg2 K ∗ holds c arg6 U ∗ ⌜r = accR K U (i5 k) acc⌝)) := by
  iintro ⟨HK, HU⟩
  sl_unfold [k0_t5_body]
  rw [k0_part2_eq_skeleton]
  sl_unfold [k0_part2_skel]
  sl_exec
  sl_step
  isplitl [HK]; · iexact HK
  isplitl [HU]; · iexact HU
  ipureintro
  rw [ld_kR arg2 K (r4 (i5 k) 0) (off16_eq k),
    ld_uC arg6 U (r4 (i5 k) 0) (off17_eq k),
    ld_kR arg2 K (r4 (i5 k) 1) (off18_1 k),
    ld_uC arg6 U (r4 (i5 k) 1) (off19_1 k),
    ld_kR arg2 K (r4 (i5 k) 2) (off18_2 k),
    ld_uC arg6 U (r4 (i5 k) 2) (off19_2 k),
    ld_kR arg2 K (r4 (i5 k) 3) (off18_3 k),
    ld_uC arg6 U (r4 (i5 k) 3) (off19_3 k)]
  rfl

/-- One iteration: row scalings recomputed, then column scalings. -/
theorem trip2 (k : Fin k0_t2_loop.trips) (U : Vec F S4096x1 .bf16) (V : Vec F S16x4096 .bf16) (W : Vec F S16x4096 .f32) :
    iprop(holds c arg2 K ∗ holds c arg4 V ∗ holds c arg5 W ∗ holds c arg6 U)
      ⊢ wp frame (wpE (defs₀ (F := F)) 𝒱₀ (c : Thread nD τ) none) Set.univ
          (k0_t2_body arg0 harg0 arg1 harg1 arg2 harg2 arg3 harg3 arg4 harg4 arg5 harg5 arg6 harg6 arg7 arg8 k ())
          (fun _ => iprop(holds c arg2 K ∗ holds c arg4 (vNext K (uAcc K V U 256)) ∗ holds c arg5 (wNext K (uAcc K V U 256)) ∗ holds c arg6 (uAcc K V U 256))) := by
  iintro ⟨HK, HV, HW, HU⟩
  sl_unfold [k0_t2_body]
  sl_for (fun j _ => iprop(holds c arg2 K ∗ holds c arg4 V ∗ holds c arg6 (uAcc K V U j))) $$ [HK HV HU]
  case region =>
    intro j _
    have hj : j.val < 256 := trips3 ▸ j.isLt
    rw [uAcc, dif_pos hj]
    exact trip3 c arg0 harg0 arg1 harg1 arg2 harg2 arg3 harg3 arg4 harg4 arg5 harg5 arg6 harg6 arg7 arg8 K j V _
  · isplitl [HK]; · iexact HK
    isplitl [HV]; · iexact HV
    iexact HU
  iintro %_ ⟨HK, HV, HU⟩
  sl_for (fun j acc => iprop(holds c arg2 K ∗ holds c arg6 (uAcc K V U 256) ∗ ⌜acc = sumL K (uAcc K V U 256) j⌝)) $$ [HK HU]
  case region =>
    intro j acc
    have hj : j.val < 64 := trips4 ▸ j.isLt
    rw [sumL, dif_pos hj]
    iintro ⟨HK, HU, %hacc⟩
    subst hacc
    iapply (trip4 c arg0 harg0 arg1 harg1 arg2 harg2 arg3 harg3 arg4 harg4 arg5 harg5 arg6 harg6 arg7 arg8 K j (uAcc K V U 256) _)
    isplitl [HK]; · iexact HK
    iexact HU
  · isplitl [HK]; · iexact HK
    isplitl [HU]; · iexact HU
    ipureintro; rfl
  iintro %vl ⟨HK, HU, %hl⟩
  sl_for (fun j acc => iprop(holds c arg2 K ∗ holds c arg6 (uAcc K V U 256) ∗ ⌜acc = sumR K (uAcc K V U 256) j⌝)) $$ [HK HU]
  case region =>
    intro j acc
    have hj : j.val < 64 := trips5 ▸ j.isLt
    rw [sumR, dif_pos hj]
    iintro ⟨HK, HU, %hacc⟩
    subst hacc
    iapply (trip5 c arg0 harg0 arg1 harg1 arg2 harg2 arg3 harg3 arg4 harg4 arg5 harg5 arg6 harg6 arg7 arg8 K j (uAcc K V U 256) _)
    isplitl [HK]; · iexact HK
    iexact HU
  · isplitl [HK]; · iexact HK
    isplitl [HU]; · iexact HU
    ipureintro; rfl
  iintro %vr ⟨HK, HU, %hr⟩
  have el : vl = sumL K (uAcc K V U 256) 64 := hl
  have er : vr = sumR K (uAcc K V U 256) 64 := hr
  have e4 : k0_pay30 vl vr = vNext K (uAcc K V U 256) := by rw [el, er]; rfl
  have e5 : k0_pay31 vl vr = wNext K (uAcc K V U 256) := by rw [el, er]; rfl
  rw [← e4, ← e5]
  sl_exec
  sl_step
  isplitl [HK]; · iexact HK
  isplitl [HV]
  · iapply (holds_full (F := F) c); iexact HV
  isplitl [HW]
  · iapply (holds_full (F := F) c); iexact HW
  iexact HU

end Loops

end Cert.Proof.Sinkhorn

end
-- ==== Proof.Fill.lean ====
/-
  The first phase: sixteen strips of the input, each copied to one of two slots while the strip before it is exponentiated into the
  kernel matrix.
-/
module

public import Idealize.ShloMosaic.Lib.DeliveryRep
public import proofs.«01_k».proof.Proof.Iter

@[expose] public section

set_option maxRecDepth 16384

noncomputable section

namespace Cert.Proof.Sinkhorn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## Transfers by values -/

/-- A copy's delivery, by values: the destination holds what the source held. -/
theorem landed_eq (c : Dev nD) {sp sp' : Space} {S : Shape} {e : EltTy} (dst : Memref sig .tc sp S e) (src : Memref sig .tc sp' S e)
    (fd : Buf (Elt F) (dst.view.loc (c : Thread nD τ))) (X : Vec F S e) (p : Vec F S e) (hp : p = src.view.read (Elt F) (src.view.rep X)) :
    (dst.view.loc (c : Thread nD τ) ↦[dst.view.set]{fullShare} dst.view.writes (Elt F) fd [⟨Rect.whole S, p⟩] : sProp 𝕄)
      = holds c dst X := by
  rw [pointsTo_rep (c : Thread nD τ) dst _ fullShare, View.read_writes_whole, hp, View.read_rep]

/-- The cell of semaphore `s` of a pair at zero. -/
abbrev cellP (c : Dev nD) (A : DmaSems sig S2) (s : Fin 2) : sProp 𝕄 := semVal ((c : Thread nD τ), SemLoc.dma (csem A s).sem) 0
/-- A copy in flight on that cell, which will leave `dst` and `src` both holding `X`. -/
abbrev flightP (c : Dev nD) {sp sp' : Space} (A : DmaSems sig S2) (s : Fin 2) (dst : Memref sig .tc sp S256x4096 .f32) (src : Memref sig .tc sp' S256x4096 .f32) (X : Vec F S256x4096 .f32) : sProp 𝕄 :=
  Transfers.Flight countersEmb (c : Thread nD τ) (SemLoc.dma (csem A s).sem) () 131072 iprop(holds c dst X ∗ holds c src X)

/-- Rows `256 b` to `256 b + 255`. -/
def rowsOf {e : EltTy} (A : Vec F S4096x4096 e) (b : Fin 16) : Vec F S256x4096 e := VecWindow.window A (stripOff b) S256x4096.size (stripOff_inb b)

/-- A reshaped slice held at `X`, read through the slice: `X` under the slice's own shape. -/
theorem read_reshape_rep {sp : Space} {S S' : Shape} {e : EltTy} (v : View sig .tc sp S e) (h : S'.numel = S.numel) (h' : S.numel = S'.numel) (X : Vec F S' e) :
    v.read (Elt F) ((v.reshape S' h).rep X) = shapeCast S X h' := by
  funext y
  have e := congrFun (View.read_rep (v.reshape S' h) X) (Shape.reshapeEquiv h' y)
  refine Eq.trans ?_ e
  show v.read (Elt F) _ y = v.read (Elt F) _ (Shape.reshapeEquiv h (Shape.reshapeEquiv h' y))
  exact congrArg _ (Equiv.symm_apply_apply (Shape.reshapeEquiv h') y).symm

/-- A slot's shape and a strip's have equally many elements. -/
theorem casts3 : S1x256x4096.numel = S256x4096.numel := shapeCasts_S1x256x4096_S256x4096.symm

/-- A slot loaded through the staging buffer reads what the slot holds, under the buffer's own shape. -/
theorem ld_slot (M : Memref sig .tc .vmem S2x256x4096 .f32) (s : Fin 2) (X : Vec F S256x4096 .f32) {off : Fin 3 → ℕ} (h : off = slotOff s) (inb) :
    M.view.readAt (Elt F) (Rect.unit (s := S2x256x4096) off S1x256x4096.size inb).toLoadRect ((slot M s).view.rep X) = shapeCast S1x256x4096 X casts3 := by
  subst h
  exact read_reshape_rep (M.view.slice (Rect.unit (s := S2x256x4096) (slotOff s) S1x256x4096.size (slotOff_inb s))) _ casts3 X

/-- Strip `b` as the body exponentiates and rounds it. -/
def kRows (A : Vec F S4096x4096 .f32) (b : Fin 16) : Vec F S256x4096 .bf16 := k0_pay22 (shapeCast S1x256x4096 (rowsOf A b) casts3)
/-- The kernel matrix with strip `b` filled in, -/
def kPut (A : Vec F S4096x4096 .f32) (b : Fin 16) (K : Vec F S4096x4096 .bf16) : Vec F S4096x4096 .bf16 :=
  VecWindow.put K (stripOff b) S256x4096.size (kRows A b)
/-- and with the first `k` strips. -/
def kAcc (A : Vec F S4096x4096 .f32) (K : Vec F S4096x4096 .bf16) : ℕ → Vec F S4096x4096 .bf16
  | 0 => K
  | k + 1 => if k < 16 then kPut A (Ring.bk 16 k) (kAcc A K k) else kAcc A K k

/-- A store of one exponentiated strip, as a step of the fill. -/
theorem st_k (M : Memref sig .tc .vmem S4096x4096 .bf16) (A : Vec F S4096x4096 .f32) (K : Vec F S4096x4096 .bf16)
    {off : Fin 2 → ℕ} (b : Fin 16) (h : off = stripOff b) (inb) (v : Vec F S1x256x4096 .f32) (hv : v = shapeCast S1x256x4096 (rowsOf A b) casts3) :
    M.view.read (Elt F) (M.view.writes (Elt F) (M.view.rep K) [⟨Rect.unit (s := S4096x4096) off S256x4096.size inb, k0_pay22 v⟩]) = kPut A b K := by
  subst hv
  exact View.read_writes_rep_unit _ _ _ _ h

/-- The rows a turn of the fill stores are its strip's. -/
theorem off8_eq' (k : Fin k0_t1_loop.trips) : k0_off8 k = stripOff (Ring.bk 16 k.val) := by
  rw [off8_eq]; have : k.val < 16 := trips1 ▸ k.isLt
  show ![256 * k.val, 0] = ![256 * (Ring.bk 16 k.val).val, 0]
  rw [Ring.bk_val this]

section Fill

variable (c : Dev nD)
  (arg0 : Memref sig .tc .hbm S4096x4096 .f32) (harg0 : arg0.IsWhole) (arg1 : Memref sig .tc .hbm S4096x4096 .f32) (harg1 : arg1.IsWhole)
  (arg2 : Memref sig .tc .vmem S4096x4096 .bf16) (harg2 : arg2.IsWhole) (arg3 : Memref sig .tc .vmem S2x256x4096 .f32) (harg3 : arg3.IsWhole)
  (arg4 : Memref sig .tc .vmem S16x4096 .bf16) (harg4 : arg4.IsWhole) (arg5 : Memref sig .tc .vmem S16x4096 .f32) (harg5 : arg5.IsWhole)
  (arg6 : Memref sig .tc .vmem S4096x1 .bf16) (harg6 : arg6.IsWhole) (arg7 : DmaSems sig S2) (arg8 : DmaSems sig S2)
  (A : Vec F S4096x4096 .f32)

/-- Strip `b` of the input home. -/
abbrev homeA (b : Fin 16) : sProp 𝕄 := holds c (strip arg0 b) (rowsOf A b)
/-- Slot `s` of the staging buffer at anything. -/
abbrev anySlot (s : Fin 2) : sProp 𝕄 := iprop(∃ X : Vec F S256x4096 .f32, holds c (slot arg3 s) X)
/-- Strip `b` of the input on its way into slot `s`. -/
abbrev flyA (s : Fin 2) (b : Fin 16) : sProp 𝕄 := flightP c arg7 s (slot arg3 s) (strip arg0 b) (rowsOf A b)

/-- One trip of the fill but the last: the next strip sent for, this one waited for, exponentiated and stored. -/
theorem trip1 (k : Fin k0_t1_loop.trips) (hk : k.val + 1 < 16) (K : Vec F S4096x4096 .bf16) :
    iprop(holds c arg2 K ∗ (∃ W, owes (c : Thread nD τ) 0 W) ∗ homeA c arg0 A (Ring.bk 16 (k.val + 1))
      ∗ flyA c arg0 arg3 arg7 A (Ring.sl 2 k.val) (Ring.bk 16 k.val) ∗ anySlot c arg3 (Ring.sl 2 (k.val + 1)) ∗ cellP c arg7 (Ring.sl 2 (k.val + 1)))
      ⊢ wp frame (wpE (defs₀ (F := F)) 𝒱₀ (c : Thread nD τ) none) Set.univ
          (k0_t1_body arg0 harg0 arg1 harg1 arg2 harg2 arg3 harg3 arg4 harg4 arg5 harg5 arg6 harg6 arg7 arg8 k ())
          (fun _ => iprop(holds c arg2 (kPut A (Ring.bk 16 k.val) K) ∗ (∃ W, owes (c : Thread nD τ) 0 W) ∗ homeA c arg0 A (Ring.bk 16 k.val)
            ∗ flyA c arg0 arg3 arg7 A (Ring.sl 2 (k.val + 1)) (Ring.bk 16 (k.val + 1)) ∗ anySlot c arg3 (Ring.sl 2 k.val) ∗ cellP c arg7 (Ring.sl 2 k.val))) := by
  have hc : k0_cond1 k = 1#1 := (cond1_iff k).mpr hk
  iintro ⟨HK, ⟨%W, HW⟩, HN, HF, ⟨%X, HX⟩, HC⟩
  sl_unfold [k0_t1_body]
  sl_exec
  sl_step
  isplitl [HK]
  · iapply (pointsTo_rep_of_read (c : Thread nD τ) arg2 _ _ _ (st_k arg2 A K (Ring.bk 16 k.val) (off8_eq' k) _ _ (ld_slot arg3 _ _ (off7_eq k) _)))
    iexact HK
  isplitl [HW]; · iexists _; iexact HW
  isplitl [HF_src]; · iexact HF_src
  isplitl [HC]
  · dsimp only [flyA, flightP]
    rw [← landed_eq c (slot arg3 (Ring.sl 2 (k.val + 1))) (strip arg0 (Ring.bk 16 (k.val + 1))) ((slot arg3 (Ring.sl 2 (k.val + 1))).view.rep X) (rowsOf A (Ring.bk 16 (k.val + 1))) _ rfl]
    iexact HC
  isplitl [HF_dst]; · iexists _; iexact HF_dst
  iexact HF

/-- The last trip of the fill: nothing more to send for. -/
theorem trip1_last (k : Fin k0_t1_loop.trips) (hk : ¬ k.val + 1 < 16) (K : Vec F S4096x4096 .bf16) :
    iprop(holds c arg2 K ∗ (∃ W, owes (c : Thread nD τ) 0 W) ∗ flyA c arg0 arg3 arg7 A (Ring.sl 2 k.val) (Ring.bk 16 k.val))
      ⊢ wp frame (wpE (defs₀ (F := F)) 𝒱₀ (c : Thread nD τ) none) Set.univ
          (k0_t1_body arg0 harg0 arg1 harg1 arg2 harg2 arg3 harg3 arg4 harg4 arg5 harg5 arg6 harg6 arg7 arg8 k ())
          (fun _ => iprop(holds c arg2 (kPut A (Ring.bk 16 k.val) K) ∗ (∃ W, owes (c : Thread nD τ) 0 W) ∗ homeA c arg0 A (Ring.bk 16 k.val)
            ∗ anySlot c arg3 (Ring.sl 2 k.val) ∗ cellP c arg7 (Ring.sl 2 k.val))) := by
  have hc : ¬ k0_cond1 k = 1#1 := fun h => hk ((cond1_iff k).mp h)
  iintro ⟨HK, ⟨%W, HW⟩, HF⟩
  sl_unfold [k0_t1_body]
  sl_exec
  sl_step
  isplitl [HK]
  · iapply (pointsTo_rep_of_read (c : Thread nD τ) arg2 _ _ _ (st_k arg2 A K (Ring.bk 16 k.val) (off8_eq' k) _ _ (ld_slot arg3 _ _ (off7_eq k) _)))
    iexact HK
  isplitl [HW]; · iexists _; iexact HW
  isplitl [HF_src]; · iexact HF_src
  isplitl [HF_dst]; · iexists _; iexact HF_dst
  iexact HF

/-- The slot and cell of trip `k`: in flight with strip `k` while there is one, free after the last. -/
def lead (k : ℕ) : sProp 𝕄 :=
  if k < 16 then flyA c arg0 arg3 arg7 A (Ring.sl 2 k) (Ring.bk 16 k) else iprop(anySlot c arg3 (Ring.sl 2 k) ∗ cellP c arg7 (Ring.sl 2 k))
/-- Before trip `k` of the fill. -/
def fillInv (K : Vec F S4096x4096 .bf16) (k : ℕ) : sProp 𝕄 :=
  iprop(holds c arg2 (kAcc A K k) ∗ (∃ W, owes (c : Thread nD τ) 0 W) ∗ bigSep (Ring.homeSet (NB := 16) 1 k) (homeA c arg0 A)
    ∗ lead c arg0 arg3 arg7 A k ∗ anySlot c arg3 (Ring.sl 2 (k + 1)) ∗ cellP c arg7 (Ring.sl 2 (k + 1)))

/-- One turn of the fill keeps its invariant. -/
theorem fill_step (K : Vec F S4096x4096 .bf16) (k : Fin k0_t1_loop.trips) :
    fillInv c arg0 arg2 arg3 arg7 A K k.val
      ⊢ wp frame (wpE (defs₀ (F := F)) 𝒱₀ (c : Thread nD τ) none) Set.univ (k0_t1_body arg0 harg0 arg1 harg1 arg2 harg2 arg3 harg3 arg4 harg4 arg5 harg5 arg6 harg6 arg7 arg8 k ())
          (fun _ => fillInv c arg0 arg2 arg3 arg7 A K (k.val + 1)) := by
  have hk16 : k.val < 16 := trips1 ▸ k.isLt
  have e2 : Ring.sl 2 (k.val + 1 + 1) = Ring.sl 2 k.val := by rw [show k.val + 1 + 1 = k.val + 2 from rfl, Ring.sl_add]
  have eK : kAcc A K (k.val + 1) = kPut A (Ring.bk 16 k.val) (kAcc A K k.val) := by rw [kAcc, if_pos hk16]
  unfold fillInv
  rw [e2, eK]
  by_cases hk : k.val + 1 < 16
  · have e1 : bigSep (Ring.homeSet (NB := 16) 1 k.val) (homeA (F := F) c arg0 A)
        = iprop(homeA c arg0 A (Ring.bk 16 (k.val + 1)) ∗ bigSep ((Ring.homeSet 1 k.val).erase (Ring.bk 16 (k.val + 1))) (homeA c arg0 A)) := by
      conv_lhs => rw [Ring.homeSet_out 1 k.val hk, bigSep_insert (Ring.bkL_not_mem_erase 1 k.val)]
      rfl
    have e1' : bigSep (Ring.homeSet (NB := 16) 1 (k.val + 1)) (homeA (F := F) c arg0 A)
        = iprop(homeA c arg0 A (Ring.bk 16 k.val) ∗ bigSep ((Ring.homeSet 1 k.val).erase (Ring.bk 16 (k.val + 1))) (homeA c arg0 A)) := by
      conv_lhs => rw [Ring.homeSet_succ 1 k.val hk, bigSep_insert (Ring.bk_not_mem_erase 1 k.val hk16 (by decide))]
      rfl
    rw [e1, e1', lead, lead, if_pos hk16, if_pos hk]
    iintro ⟨HK, HW, ⟨HN, HH⟩, HF, HX, HC⟩
    iapply (wp_wand_r Idealize.ShloMosaic.frame (wpE (defs₀ (F := F)) 𝒱₀ (c : Thread nD τ) none) Set.univ)
    isplitl [HK HW HN HF HX HC]
    · iapply (trip1 c arg0 harg0 arg1 harg1 arg2 harg2 arg3 harg3 arg4 harg4 arg5 harg5 arg6 harg6 arg7 arg8 A k hk _)
      isplitl [HK]; · iexact HK
      isplitl [HW]; · iexact HW
      isplitl [HN]; · iexact HN
      isplitl [HF]; · iexact HF
      isplitl [HX]; · iexact HX
      iexact HC
    · iintro %_ ⟨HK, HW, HN, HF, HX, HC⟩
      isplitl [HK]; · iexact HK
      isplitl [HW]; · iexact HW
      isplitl [HN HH]
      · isplitl [HN]; · iexact HN
        iexact HH
      isplitl [HF]; · iexact HF
      isplitl [HX]; · iexact HX
      iexact HC
  · have e1' : bigSep (Ring.homeSet (NB := 16) 1 (k.val + 1)) (homeA (F := F) c arg0 A)
        = iprop(homeA c arg0 A (Ring.bk 16 k.val) ∗ bigSep (Ring.homeSet 1 k.val) (homeA c arg0 A)) := by
      conv_lhs => rw [Ring.homeSet_succ_tail 1 k.val (by omega) hk16, bigSep_insert (Ring.bk_not_mem_homeSet 1 k.val hk16 (by decide))]
      rfl
    rw [e1', lead, lead, if_pos hk16, if_neg hk]
    iintro ⟨HK, HW, HH, HF, HX, HC⟩
    iapply (wp_wand_r Idealize.ShloMosaic.frame (wpE (defs₀ (F := F)) 𝒱₀ (c : Thread nD τ) none) Set.univ)
    isplitl [HK HW HF]
    · iapply (trip1_last c arg0 harg0 arg1 harg1 arg2 harg2 arg3 harg3 arg4 harg4 arg5 harg5 arg6 harg6 arg7 arg8 A k hk _)
      isplitl [HK]; · iexact HK
      isplitl [HW]; · iexact HW
      iexact HF
    · iintro %_ ⟨HK, HW, HN, HX', HC'⟩
      isplitl [HK]; · iexact HK
      isplitl [HW]; · iexact HW
      isplitl [HN HH]
      · isplitl [HN]; · iexact HN
        iexact HH
      isplitl [HX HC]
      · isplitl [HX]; · iexact HX
        iexact HC
      isplitl [HX']; · iexact HX'
      iexact HC'

end Fill

end Cert.Proof.Sinkhorn

end
-- ==== Proof.Drain.lean ====
/-
  The last phase: the kernel matrix scaled by rows and columns, sixteen strips of 256 rows, each written to one of two slots and copied
  out to the result while the next is computed.
-/
module

public import Idealize.ShloMosaic.Lib.ValueLayout
public import Idealize.ShloMosaic.Lib.Ring.WriteBehind
public import proofs.«01_k».proof.Proof.Fill

@[expose] public section

set_option maxRecDepth 16384

noncomputable section

namespace Cert.Proof.Sinkhorn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

local notation "𝕄" => MT nD τ sig Unit (Elt F) ℕ (UU nD τ) ℕ

/-! ## The output rows, sixteen at a time -/

/-- Sixteen full rows lie within the matrix. -/
theorem chunk_inb (i : Fin 256) : ∀ a, (![16 * i.val, 0] : Fin 2 → ℕ) a + S16x4096.size a ≤ S4096x4096.size a := by
  have := i.isLt; intro a; fin_cases a
  · show 16 * i.val + 16 ≤ 4096; omega
  · show 0 + 4096 ≤ 4096; omega
/-- Rows `16 i` to `16 i + 15` of the kernel matrix. -/
def kChunk (K : Vec F S4096x4096 .bf16) (i : Fin 256) : Vec F S16x4096 .bf16 := VecWindow.window K ![16 * i.val, 0] S16x4096.size (chunk_inb i)
/-- Piece `r` of strip `b`. -/
def c16 (b r : Fin 16) : Fin 256 := ⟨16 * b.val + r.val, by omega⟩
/-- Rows `16 i` to `16 i + 15` of the output: the kernel matrix scaled by rows and by columns. -/
def oChunk (K : Vec F S4096x4096 .bf16) (U : Vec F S4096x1 .bf16) (W : Vec F S16x4096 .f32) (i : Fin 256) : FVec F S16x4096 .f32 := k0_pay6 (kChunk K i) (uC U i) W
/-- The piece row `y` of a strip lies in. -/
def piece (y : Fin 256) : Fin 16 := ⟨y.val / 16, by omega⟩
/-- Strip `b` of the output. -/
def oRows (K : Vec F S4096x4096 .bf16) (U : Vec F S4096x1 .bf16) (W : Vec F S16x4096 .f32) (b : Fin 16) : Vec F S256x4096 .f32 :=
  fun y => oChunk K U W (c16 b (piece (y 0))) (ix2 (⟨(y 0).val % 16, Nat.mod_lt _ (by decide)⟩ : Fin 16) (y 1))

/-- A slot read at row `a`, lane `l`: the staging buffer read there. -/
theorem read_slot (M : Memref sig .tc .vmem S2x256x4096 .f32) (s : Fin 2) (g : M.view.ty.Contents (Elt F)) (a : Fin 256) (l : Fin 4096) :
    (slot M s).view.read (Elt F) g (ix2 a l) = M.view.read (Elt F) g (ix3 s a l) := by
  show M.view.read (Elt F) g ((Rect.unit (s := S2x256x4096) (slotOff s) S1x256x4096.size (slotOff_inb s)).emb (Shape.reshapeEquiv _ (ix2 a l))) = _
  rw [reshapeEquiv_ix2_1ab]
  refine congrArg _ (funext fun i => Fin.ext ?_)
  fin_cases i
  · show s.val + 1 * 0 = s.val; omega
  · show 0 + 1 * a.val = a.val; omega
  · show 0 + 1 * l.val = l.val; omega

/-- Once the first `r` pieces of a slot hold output rows, storing piece `r` makes it the first `r + 1`. -/
theorem chunk_step (M : Memref sig .tc .vmem S2x256x4096 .f32) (s : Fin 2) (K : Vec F S4096x4096 .bf16) (U : Vec F S4096x1 .bf16) (W : Vec F S16x4096 .f32)
    (b r : Fin 16) (f : M.view.ty.Contents (Elt F))
    (hf : ∀ y, (y 0).val < 16 * r.val → (slot M s).view.read (Elt F) f y = oRows K U W b y)
    {off : Fin 3 → ℕ} (h : off = ![s.val, 16 * r.val, 0]) (inb) (x : Vec F S16x4096 .bf16) (u : Vec F S16x1 .bf16) (w : Vec F S16x4096 .f32)
    (hx : x = kChunk K (c16 b r)) (hu : u = uC U (c16 b r)) (hw : w = W)
    (v : Vec F S1x16x4096 .f32) (hv : v = shapeCast S1x16x4096 (k0_pay6 x u w) shapeCasts_S16x4096_S1x16x4096) :
    ∀ y, (y 0).val < 16 * (r.val + 1) →
      (slot M s).view.read (Elt F) (View.write (Elt F) (M.access (Rect.unit (s := S2x256x4096) off S1x16x4096.size inb)) f v Finset.univ) y = oRows K U W b y := by
  subst hx hu hw hv h
  intro y hy
  obtain ⟨a, l, rfl⟩ : ∃ (a : Fin 256) (l : Fin 4096), y = ix2 a l := ⟨y 0, y 1, eq_ix2 y⟩
  have ha : a.val < 16 * (r.val + 1) := hy
  rw [read_slot]
  have e := congrFun (View.read_writes_cons_put M.view f inb (shapeCast S1x16x4096 (k0_pay6 (kChunk K (c16 b r)) (uC U (c16 b r)) w) shapeCasts_S16x4096_S1x16x4096) [] rfl) (ix3 s a l)
  refine e.trans ?_
  unfold VecWindow.put
  by_cases hin : 16 * r.val ≤ a.val
  · rw [dif_pos (fun i => by
      fin_cases i
      · exact ⟨le_refl s.val, Nat.lt_succ_self s.val⟩
      · exact ⟨hin, by show a.val < 16 * r.val + 16; omega⟩
      · exact ⟨Nat.zero_le _, by show l.val < 0 + 4096; omega⟩)]
    have ep : piece a = r := Fin.ext (by show a.val / 16 = r.val; omega)
    have eo : oRows K U w b (ix2 a l) = oChunk K U w (c16 b (piece a)) (ix2 (⟨a.val % 16, Nat.mod_lt _ (by decide)⟩ : Fin 16) l) := rfl
    rw [eo, ep]
    have ei : Rect.unitLocal (s := S2x256x4096) (off := ![s.val, 16 * r.val, 0]) (size := S1x16x4096.size) (ix3 s a l) (fun i => by
      fin_cases i
      · exact ⟨le_refl s.val, Nat.lt_succ_self s.val⟩
      · exact ⟨hin, by show a.val < 16 * r.val + 16; omega⟩
      · exact ⟨Nat.zero_le _, by show l.val < 0 + 4096; omega⟩) = ix3 (0 : Fin 1) (⟨a.val % 16, Nat.mod_lt _ (by decide)⟩ : Fin 16) l := by
      funext i; apply Fin.ext; fin_cases i
      · show s.val - s.val = 0; omega
      · show a.val - 16 * r.val = a.val % 16; omega
      · rfl
    refine (congrArg _ ei).trans ?_
    exact shapeCast_ab_1ab_apply _ _ _ _ _
  · rw [dif_neg (fun hall => hin (hall 1).1)]
    exact (read_slot M s f a l).symm.trans (hf (ix2 a l) (by show a.val < _; omega))

/-- A load of sixteen full rows of the kernel matrix. -/
theorem ld_kChunk (M : Memref sig .tc .vmem S4096x4096 .bf16) (K : Vec F S4096x4096 .bf16) {off : Fin 2 → ℕ} (i : Fin 256) (h : off = ![16 * i.val, 0]) (inb) :
    M.view.readAt (Elt F) (Rect.unit (s := S4096x4096) off S16x4096.size inb).toLoadRect (M.view.rep K) = kChunk K i :=
  View.readAt_rep_unit _ _ _ h _

/-- Where the drain reads piece `r` of the kernel matrix, by the piece's number among all 256; -/
theorem off23_c16 (k : Fin k0_t6_loop.trips) (r : Fin 16) : k0_off23 k (BitVec.ofNat 32 r.val) = ![16 * (c16 (Ring.bk 16 k.val) r).val, 0] := by
  have hk : k.val < 16 := trips6 ▸ k.isLt
  rw [off23_eq]; congr 1
  show 256 * k.val + 16 * r.val = 16 * (16 * (Ring.bk 16 k.val).val + r.val)
  rw [Ring.bk_val hk]; omega
/-- and of the row scalings. -/
theorem off24_c16 (k : Fin k0_t6_loop.trips) (r : Fin 16) : k0_off24 k (BitVec.ofNat 32 r.val) = ![16 * (c16 (Ring.bk 16 k.val) r).val, 0] := by
  have hk : k.val < 16 := trips6 ▸ k.isLt
  rw [off24_eq]; congr 1
  show 256 * k.val + 16 * r.val = 16 * (16 * (Ring.bk 16 k.val).val + r.val)
  rw [Ring.bk_val hk]; omega

/-- One more piece stored, the loads read off the buffers. -/
theorem piece_step (M2 : Memref sig .tc .vmem S4096x4096 .bf16) (M3 : Memref sig .tc .vmem S2x256x4096 .f32) (M5 : Memref sig .tc .vmem S16x4096 .f32) (M6 : Memref sig .tc .vmem S4096x1 .bf16)
    (K : Vec F S4096x4096 .bf16) (U : Vec F S4096x1 .bf16) (W : Vec F S16x4096 .f32) (k : Fin k0_t6_loop.trips) (r : Fin 16)
    (f : M3.view.ty.Contents (Elt F))
    (hf : ∀ y, (y 0).val < 16 * r.val → (slot M3 (Ring.sl 2 k.val)).view.read (Elt F) f y = oRows K U W (Ring.bk 16 k.val) y)
    (pay : Vec F S16x4096 .bf16 → Vec F S16x1 .bf16 → Vec F S16x4096 .f32 → Vec F S1x16x4096 .f32)
    (hpay : ∀ x u w, pay x u w = shapeCast S1x16x4096 (k0_pay6 x u w) shapeCasts_S16x4096_S1x16x4096) (i23) (i24) (i5) (i25) :
    ∀ y, (y 0).val < 16 * (r.val + 1) →
      (slot M3 (Ring.sl 2 k.val)).view.read (Elt F) (View.write (Elt F) (M3.access (Rect.unit (s := S2x256x4096) (k0_off25 k (BitVec.ofNat 32 r.val)) S1x16x4096.size i25)) f
        (pay (M2.view.readAt (Elt F) (Rect.unit (s := S4096x4096) (k0_off23 k (BitVec.ofNat 32 r.val)) S16x4096.size i23).toLoadRect (M2.view.rep K))
          (M6.view.readAt (Elt F) (Rect.unit (s := S4096x1) (k0_off24 k (BitVec.ofNat 32 r.val)) S16x1.size i24).toLoadRect (M6.view.rep U))
          (M5.view.readAt (Elt F) (Rect.unit (s := S16x4096) ![0, 0] S16x4096.size i5).toLoadRect (M5.view.rep W))) Finset.univ) y = oRows K U W (Ring.bk 16 k.val) y :=
  chunk_step M3 (Ring.sl 2 k.val) K U W (Ring.bk 16 k.val) r f hf (off25_eq k r) i25 _ _ _ (ld_kChunk M2 K _ (off23_c16 k r) _) (ld_uC M6 U _ (off24_c16 k r) _) (ld_full M5 W _) _ (hpay _ _ _)

/-- The sixteen payloads, each the same product of three loads. -/
def pays : Fin 16 → Vec F S16x4096 .bf16 → Vec F S16x1 .bf16 → Vec F S16x4096 .f32 → Vec F S1x16x4096 .f32 :=
  ![k0_pay5, fun x u w => k0_pay7 (k0_pay6 x u w), k0_pay8, k0_pay9, k0_pay10, k0_pay11, k0_pay12, k0_pay13, k0_pay14, k0_pay15, k0_pay16, k0_pay17,
    fun x u w => k0_pay19 (k0_pay18 x u) w, k0_pay20, fun x u w => k0_pay32 (k0_pay21 x u w), k0_pay33]
/-- They are the same. -/
theorem pays_eq (r : Fin 16) (x : Vec F S16x4096 .bf16) (u : Vec F S16x1 .bf16) (w : Vec F S16x4096 .f32) :
    pays r x u w = shapeCast S1x16x4096 (k0_pay6 x u w) shapeCasts_S16x4096_S1x16x4096 := by
  fin_cases r <;> rfl

/-- The staging buffer after the first `r` stores of trip `k`. -/
def stores (M2 : Memref sig .tc .vmem S4096x4096 .bf16) (M3 : Memref sig .tc .vmem S2x256x4096 .f32) (M5 : Memref sig .tc .vmem S16x4096 .f32) (M6 : Memref sig .tc .vmem S4096x1 .bf16)
    (K : Vec F S4096x4096 .bf16) (U : Vec F S4096x1 .bf16) (W : Vec F S16x4096 .f32) (k : Fin k0_t6_loop.trips) (f : M3.view.ty.Contents (Elt F)) :
    (r : ℕ) → r ≤ 16 → M3.view.ty.Contents (Elt F)
  | 0, _ => f
  | r + 1, h => View.write (Elt F) (M3.access (Rect.unit (s := S2x256x4096) (k0_off25 k (BitVec.ofNat 32 r)) S1x16x4096.size (k0_off25_inb k ⟨r, h⟩)))
      (stores M2 M3 M5 M6 K U W k f r (Nat.le_of_succ_le h))
      (pays ⟨r, h⟩ (M2.view.readAt (Elt F) (Rect.unit (s := S4096x4096) (k0_off23 k (BitVec.ofNat 32 r)) S16x4096.size (k0_off23_inb k ⟨r, h⟩)).toLoadRect (M2.view.rep K))
          (M6.view.readAt (Elt F) (Rect.unit (s := S4096x1) (k0_off24 k (BitVec.ofNat 32 r)) S16x1.size (k0_off24_inb k ⟨r, h⟩)).toLoadRect (M6.view.rep U))
          (M5.view.readAt (Elt F) (Rect.unit (s := S16x4096) ![0, 0] S16x4096.size inb_S16x4096_S16x4096_0_0).toLoadRect (M5.view.rep W))) Finset.univ

/-- After `r` stores the first `r` pieces of the slot hold output rows, -/
theorem stores_read (M2 : Memref sig .tc .vmem S4096x4096 .bf16) (M3 : Memref sig .tc .vmem S2x256x4096 .f32) (M5 : Memref sig .tc .vmem S16x4096 .f32) (M6 : Memref sig .tc .vmem S4096x1 .bf16)
    (K : Vec F S4096x4096 .bf16) (U : Vec F S4096x1 .bf16) (W : Vec F S16x4096 .f32) (k : Fin k0_t6_loop.trips) (f : M3.view.ty.Contents (Elt F)) :
    ∀ (r : ℕ) (h : r ≤ 16) (y), (y 0).val < 16 * r → (slot M3 (Ring.sl 2 k.val)).view.read (Elt F) (stores M2 M3 M5 M6 K U W k f r h) y = oRows K U W (Ring.bk 16 k.val) y
  | 0, _, y, hy => absurd hy (by omega)
  | r + 1, h, y, hy => piece_step M2 M3 M5 M6 K U W k ⟨r, h⟩ _ (stores_read M2 M3 M5 M6 K U W k f r (Nat.le_of_succ_le h)) (pays ⟨r, h⟩) (pays_eq ⟨r, h⟩) _ _ _ _ y hy
/-- and after all sixteen the slot holds the strip. -/
theorem stores_all (M2 : Memref sig .tc .vmem S4096x4096 .bf16) (M3 : Memref sig .tc .vmem S2x256x4096 .f32) (M5 : Memref sig .tc .vmem S16x4096 .f32) (M6 : Memref sig .tc .vmem S4096x1 .bf16)
    (K : Vec F S4096x4096 .bf16) (U : Vec F S4096x1 .bf16) (W : Vec F S16x4096 .f32) (k : Fin k0_t6_loop.trips) (f : M3.view.ty.Contents (Elt F)) :
    (slot M3 (Ring.sl 2 k.val)).view.read (Elt F) (stores M2 M3 M5 M6 K U W k f 16 (le_refl 16)) = oRows K U W (Ring.bk 16 k.val) :=
  funext fun y => stores_read M2 M3 M5 M6 K U W k f 16 (le_refl 16) y (by have := (y 0).isLt; exact this)

/-- A copy out of a slot whose contents read `X`, by values. -/
theorem flight_of_read (c : Dev nD) {sp sp' : Space} (A : DmaSems sig S2) (s : Fin 2) (dst : Memref sig .tc sp S256x4096 .f32) (src : Memref sig .tc sp' S256x4096 .f32) (X : Vec F S256x4096 .f32)
    (fd : Buf (Elt F) (dst.view.loc (c : Thread nD τ))) (f : Buf (Elt F) (src.view.loc (c : Thread nD τ))) (hX : src.view.read (Elt F) f = X) (p : Vec F S256x4096 .f32) (hp : p = src.view.read (Elt F) f) :
    (Transfers.Flight countersEmb (c : Thread nD τ) (SemLoc.dma (csem A s).sem) () 131072
      iprop((dst.view.loc (c : Thread nD τ) ↦[dst.view.set]{fullShare} dst.view.writes (Elt F) fd [⟨Rect.whole S256x4096, p⟩])
        ∗ src.view.loc (c : Thread nD τ) ↦[src.view.set]{fullShare} f) : sProp 𝕄) = flightP c A s dst src X := by
  subst hp
  unfold flightP
  rw [landed_eq c dst src fd X _ (by rw [hX, View.read_rep]), pointsTo_rep (c : Thread nD τ) src f fullShare, hX]

section Drain

variable (c : Dev nD)
  (arg0 : Memref sig .tc .hbm S4096x4096 .f32) (harg0 : arg0.IsWhole) (arg1 : Memref sig .tc .hbm S4096x4096 .f32) (harg1 : arg1.IsWhole)
  (arg2 : Memref sig .tc .vmem S4096x4096 .bf16) (harg2 : arg2.IsWhole) (arg3 : Memref sig .tc .vmem S2x256x4096 .f32) (harg3 : arg3.IsWhole)
  (arg4 : Memref sig .tc .vmem S16x4096 .bf16) (harg4 : arg4.IsWhole) (arg5 : Memref sig .tc .vmem S16x4096 .f32) (harg5 : arg5.IsWhole)
  (arg6 : Memref sig .tc .vmem S4096x1 .bf16) (harg6 : arg6.IsWhole) (arg7 : DmaSems sig S2) (arg8 : DmaSems sig S2)

/-- Strip `b` of the output on its way out of slot `s`, its elements `X`. -/
abbrev flyO (s : Fin 2) (b : Fin 16) (X : Vec F S256x4096 .f32) : sProp 𝕄 := flightP c arg8 s (strip arg1 b) (slot arg3 s) X
/-- Strip `b` of the output at anything. -/
abbrev anyStrip (b : Fin 16) : sProp 𝕄 := iprop(∃ X : Vec F S256x4096 .f32, holds c (strip arg1 b) X)

/-- A trip that waits for the strip sent two trips before. -/
theorem trip6 (k : Fin k0_t6_loop.trips) (hk : 2 ≤ k.val) (K : Vec F S4096x4096 .bf16) (W : Vec F S16x4096 .f32) (U : Vec F S4096x1 .bf16)
    (X : Vec F S256x4096 .f32) :
    iprop(holds c arg2 K ∗ holds c arg5 W ∗ holds c arg6 U ∗ (∃ W, owes (c : Thread nD τ) 0 W)
      ∗ flyO c arg1 arg3 arg8 (Ring.sl 2 k.val) (Ring.bk 16 (k.val - 2)) X ∗ anyStrip c arg1 (Ring.bk 16 k.val))
      ⊢ wp frame (wpE (defs₀ (F := F)) 𝒱₀ (c : Thread nD τ) none) Set.univ
          (k0_t6_body arg0 harg0 arg1 harg1 arg2 harg2 arg3 harg3 arg4 harg4 arg5 harg5 arg6 harg6 arg7 arg8 k ())
          (fun _ => iprop(holds c arg2 K ∗ holds c arg5 W ∗ holds c arg6 U ∗ (∃ W, owes (c : Thread nD τ) 0 W)
            ∗ holds c (strip arg1 (Ring.bk 16 (k.val - 2))) X ∗ flyO c arg1 arg3 arg8 (Ring.sl 2 k.val) (Ring.bk 16 k.val) (oRows K U W (Ring.bk 16 k.val)))) := by
  have hc : k0_cond2 k = 1#1 := (cond2_iff k).mpr hk
  iintro ⟨HK, HW, HU, ⟨%W', HO⟩, HF, ⟨%Y, HY⟩⟩
  sl_unfold [k0_t6_body]
  rw [k0_part3_eq_skeleton, k0_part4_eq_skeleton, k0_part5_eq_skeleton, k0_part6_eq_skeleton, k0_part7_eq_skeleton, k0_part8_eq_skeleton, k0_part9_eq_skeleton]
  sl_unfold [k0_part3_skel, k0_part4_skel, k0_part5_skel, k0_part6_skel, k0_part7_skel, k0_part8_skel, k0_part9_skel]
  sl_exec
  sl_step
  isplitl [HK]; · iexact HK
  isplitl [HW]; · iexact HW
  isplitl [HU]; · iexact HU
  isplitl [HO]; · iexists _; iexact HO
  isplitl [HF_dst]; · iexact HF_dst
  dsimp only [flyO]
  rw [← flight_of_read c arg8 (Ring.sl 2 k.val) (strip arg1 (Ring.bk 16 k.val)) (slot arg3 (Ring.sl 2 k.val)) (oRows K U W (Ring.bk 16 k.val)) ((strip arg1 (Ring.bk 16 k.val)).view.rep Y)
    _ (stores_all arg2 arg3 arg5 arg6 K U W k ((slot arg3 (Ring.sl 2 k.val)).view.rep X)) _ rfl]
  iexact HF

/-- A trip that finds its slot free. -/
theorem trip6_boot (k : Fin k0_t6_loop.trips) (hk : ¬ 2 ≤ k.val) (K : Vec F S4096x4096 .bf16) (W : Vec F S16x4096 .f32) (U : Vec F S4096x1 .bf16) :
    iprop(holds c arg2 K ∗ holds c arg5 W ∗ holds c arg6 U ∗ (∃ W, owes (c : Thread nD τ) 0 W)
      ∗ (anySlot c arg3 (Ring.sl 2 k.val) ∗ cellP c arg8 (Ring.sl 2 k.val)) ∗ anyStrip c arg1 (Ring.bk 16 k.val))
      ⊢ wp frame (wpE (defs₀ (F := F)) 𝒱₀ (c : Thread nD τ) none) Set.univ
          (k0_t6_body arg0 harg0 arg1 harg1 arg2 harg2 arg3 harg3 arg4 harg4 arg5 harg5 arg6 harg6 arg7 arg8 k ())
          (fun _ => iprop(holds c arg2 K ∗ holds c arg5 W ∗ holds c arg6 U ∗ (∃ W, owes (c : Thread nD τ) 0 W)
            ∗ flyO c arg1 arg3 arg8 (Ring.sl 2 k.val) (Ring.bk 16 k.val) (oRows K U W (Ring.bk 16 k.val)))) := by
  have hc : ¬ k0_cond2 k = 1#1 := fun h => hk ((cond2_iff k).mp h)
  iintro ⟨HK, HW, HU, ⟨%W', HO⟩, ⟨⟨%X, HS⟩, HF⟩, ⟨%Y, HY⟩⟩
  sl_unfold [k0_t6_body]
  rw [k0_part3_eq_skeleton, k0_part4_eq_skeleton, k0_part5_eq_skeleton, k0_part6_eq_skeleton, k0_part7_eq_skeleton, k0_part8_eq_skeleton, k0_part9_eq_skeleton]
  sl_unfold [k0_part3_skel, k0_part4_skel, k0_part5_skel, k0_part6_skel, k0_part7_skel, k0_part8_skel, k0_part9_skel]
  sl_exec
  sl_step
  isplitl [HK]; · iexact HK
  isplitl [HW]; · iexact HW
  isplitl [HU]; · iexact HU
  isplitl [HO]; · iexists _; iexact HO
  dsimp only [flyO]
  rw [← flight_of_read c arg8 (Ring.sl 2 k.val) (strip arg1 (Ring.bk 16 k.val)) (slot arg3 (Ring.sl 2 k.val)) (oRows K U W (Ring.bk 16 k.val)) ((strip arg1 (Ring.bk 16 k.val)).view.rep Y)
    _ (stores_all arg2 arg3 arg5 arg6 K U W k ((slot arg3 (Ring.sl 2 k.val)).view.rep X)) _ rfl]
  iexact HF

end Drain

end Cert.Proof.Sinkhorn

end
-- ==== Proof.Body.lean ====
/-
  The kernel's body on one matrix: the fill of the kernel matrix, ten iterations, the drain of the scaled matrix. What each loop
  leaves, whatever the scratch held before, and the body's specification from those of its three phases.
-/
module

public import proofs.«01_k».proof.Proof.Drain

@[expose] public section

set_option maxRecDepth 16384

noncomputable section

namespace Cert.Proof.Sinkhorn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx

local notation "𝕄" => MT nD τ sig Unit (Elt F) ℕ (UU nD τ) ℕ

/-- Equal resources, one for the other. -/
theorem ent_of_eq {P Q : sProp 𝕄} (e : P = Q) : P ⊢ Q := e ▸ .rfl

/-! ## What the loops leave, whatever the scratch held before -/

/-- The strip row `y` of the matrix lies in, and the sixteen-row piece. -/
def stripOf (y : Fin 4096) : Fin 16 := ⟨y.val / 256, by omega⟩
/-- The sixteen rows the row `y` lies in. -/
def pieceOf (y : Fin 4096) : Fin 256 := ⟨y.val / 16, by omega⟩
/-- The kernel matrix, every strip filled in. -/
def kFull (A : Vec F S4096x4096 .f32) : Vec F S4096x4096 .bf16 :=
  fun y => kRows A (stripOf (y 0)) (ix2 (⟨(y 0).val % 256, Nat.mod_lt _ (by decide)⟩ : Fin 256) (y 1))
/-- The row scalings, every piece recomputed. -/
def uFull (K : Vec F S4096x4096 .bf16) (V : Vec F S16x4096 .bf16) : Vec F S4096x1 .bf16 :=
  fun y => k0_pay24 V (kL K (pieceOf (y 0))) (kR K (pieceOf (y 0))) (ix2 (⟨(y 0).val % 16, Nat.mod_lt _ (by decide)⟩ : Fin 16) (y 1))

/-- After `k` strips the first `256 k` rows are filled in; -/
theorem kAcc_prefix (A : Vec F S4096x4096 .f32) (K : Vec F S4096x4096 .bf16) : ∀ (k : ℕ) (hk : k ≤ 16) (y : S4096x4096.Idx), (y 0).val < 256 * k → kAcc A K k y = kFull A y
  | 0, _, y, hy => absurd hy (by omega)
  | k + 1, hk, y, hy => by
    have hb : (Ring.bk 16 k).val = k := Ring.bk_val (by omega)
    obtain ⟨a, l, rfl⟩ : ∃ (a l : Fin 4096), y = ix2 a l := ⟨y 0, y 1, eq_ix2 y⟩
    have hy' : a.val < 256 * (k + 1) := hy
    rw [kAcc, if_pos (by omega)]
    unfold kPut VecWindow.put
    by_cases hin : 256 * k ≤ a.val
    · have hall : ∀ i, stripOff (Ring.bk 16 k) i ≤ ((ix2 a l : S4096x4096.Idx) i).val ∧ ((ix2 a l : S4096x4096.Idx) i).val < stripOff (Ring.bk 16 k) i + S256x4096.size i := fun i => by
        fin_cases i
        · refine ⟨?_, ?_⟩
          · show 256 * (Ring.bk 16 k).val ≤ a.val; omega
          · show a.val < 256 * (Ring.bk 16 k).val + 256; omega
        · exact ⟨Nat.zero_le _, by show l.val < 0 + 4096; omega⟩
      rw [dif_pos hall]
      have es : stripOf a = Ring.bk 16 k := Fin.ext (by show a.val / 256 = _; omega)
      have ek : kFull A (ix2 a l) = kRows A (stripOf a) (ix2 (⟨a.val % 256, Nat.mod_lt _ (by decide)⟩ : Fin 256) l) := rfl
      rw [ek, es]
      refine congrArg _ (funext fun i => Fin.ext ?_)
      fin_cases i
      · show a.val - 256 * (Ring.bk 16 k).val = a.val % 256; omega
      · rfl
    · rw [dif_neg (fun hall => hin (by have := (hall 0).1; rw [← hb]; exact this))]
      exact kAcc_prefix A K k (by omega) (ix2 a l) (by show a.val < _; omega)
/-- after all sixteen, the matrix. -/
theorem kAcc_all (A : Vec F S4096x4096 .f32) (K : Vec F S4096x4096 .bf16) : kAcc A K 16 = kFull A :=
  funext fun y => kAcc_prefix A K 16 (le_refl _) y (by have := (y 0).isLt; exact this)

/-- After `k` pieces the first `16 k` row scalings are recomputed; -/
theorem uAcc_prefix (K : Vec F S4096x4096 .bf16) (V : Vec F S16x4096 .bf16) (U : Vec F S4096x1 .bf16) :
    ∀ (k : ℕ) (hk : k ≤ 256) (y : S4096x1.Idx), (y 0).val < 16 * k → uAcc K V U k y = uFull K V y
  | 0, _, y, hy => absurd hy (by omega)
  | k + 1, hk, y, hy => by
    obtain ⟨a, l, rfl⟩ : ∃ (a : Fin 4096) (l : Fin 1), y = ix2 a l := ⟨y 0, y 1, eq_ix2 y⟩
    have hy' : a.val < 16 * (k + 1) := hy
    have hk' : k < 256 := hk
    rw [uAcc, dif_pos hk']
    unfold uPut VecWindow.put
    by_cases hin : 16 * k ≤ a.val
    · have hall : ∀ i, (![16 * k, 0] : Fin 2 → ℕ) i ≤ ((ix2 a l : S4096x1.Idx) i).val ∧ ((ix2 a l : S4096x1.Idx) i).val < (![16 * k, 0] : Fin 2 → ℕ) i + S16x1.size i := fun i => by
        fin_cases i
        · exact ⟨hin, by show a.val < 16 * k + 16; omega⟩
        · exact ⟨Nat.zero_le _, by show l.val < 0 + 1; omega⟩
      rw [dif_pos hall]
      have es : pieceOf a = ⟨k, hk'⟩ := Fin.ext (by show a.val / 16 = k; omega)
      have ek : uFull K V (ix2 a l) = k0_pay24 V (kL K (pieceOf a)) (kR K (pieceOf a)) (ix2 (⟨a.val % 16, Nat.mod_lt _ (by decide)⟩ : Fin 16) l) := rfl
      rw [ek, es]
      refine congrArg _ (funext fun i => Fin.ext ?_)
      fin_cases i
      · show a.val - 16 * k = a.val % 16; omega
      · rfl
    · rw [dif_neg (fun hall => hin (hall 0).1)]
      exact uAcc_prefix K V U k (by omega) (ix2 a l) (by show a.val < _; omega)
/-- after all 256, all of them. -/
theorem uAcc_all (K : Vec F S4096x4096 .bf16) (V : Vec F S16x4096 .bf16) (U : Vec F S4096x1 .bf16) : uAcc K V U 256 = uFull K V :=
  funext fun y => uAcc_prefix K V U 256 (le_refl _) y (by have := (y 0).isLt; exact this)

/-- The column scalings after `n` iterations, from all ones. -/
def vIter (K : Vec F S4096x4096 .bf16) : ℕ → Vec F S16x4096 .bf16
  | 0 => k0_pay23
  | n + 1 => vNext K (uFull K (vIter K n))
/-- The row scalings after ten iterations. -/
def uFin (K : Vec F S4096x4096 .bf16) : Vec F S4096x1 .bf16 := uFull K (vIter K 9)
/-- Strip `b` of the output on the input `A`. -/
def outRows (A : Vec F S4096x4096 .f32) (b : Fin 16) : Vec F S256x4096 .f32 := oRows (kFull A) (uFin (kFull A)) (wNext (kFull A) (uFin (kFull A))) b

section Body

variable (c : Dev nD)
  (arg0 : Memref sig .tc .hbm S4096x4096 .f32) (harg0 : arg0.IsWhole) (arg1 : Memref sig .tc .hbm S4096x4096 .f32) (harg1 : arg1.IsWhole)
  (arg2 : Memref sig .tc .vmem S4096x4096 .bf16) (harg2 : arg2.IsWhole) (arg3 : Memref sig .tc .vmem S2x256x4096 .f32) (harg3 : arg3.IsWhole)
  (arg4 : Memref sig .tc .vmem S16x4096 .bf16) (harg4 : arg4.IsWhole) (arg5 : Memref sig .tc .vmem S16x4096 .f32) (harg5 : arg5.IsWhole)
  (arg6 : Memref sig .tc .vmem S4096x1 .bf16) (harg6 : arg6.IsWhole) (arg7 : DmaSems sig S2) (arg8 : DmaSems sig S2)

  (A : Vec F S4096x4096 .f32)

/-- The slot and cell of trip `k` of the drain: free at the boot, then carrying the strip of two trips before. -/
def trail (O : Fin 16 → Vec F S256x4096 .f32) (k : ℕ) : sProp 𝕄 :=
  if 2 ≤ k then flyO c arg1 arg3 arg8 (Ring.sl 2 k) (Ring.bk 16 (k - 2)) (O (Ring.bk 16 (k - 2))) else iprop(anySlot c arg3 (Ring.sl 2 k) ∗ cellP c arg8 (Ring.sl 2 k))
/-- Strip `b` of the output landed. -/
abbrev landed (O : Fin 16 → Vec F S256x4096 .f32) (b : Fin 16) : sProp 𝕄 := holds c (strip arg1 b) (O b)
/-- Before trip `k` of the drain. -/
def drainInv (K : Vec F S4096x4096 .bf16) (W : Vec F S16x4096 .f32) (U : Vec F S4096x1 .bf16) (k : ℕ) : sProp 𝕄 :=
  iprop(holds c arg2 K ∗ holds c arg5 W ∗ holds c arg6 U ∗ (∃ W, owes (c : Thread nD τ) 0 W)
    ∗ trail c arg1 arg3 arg8 (oRows K U W) k ∗ trail c arg1 arg3 arg8 (oRows K U W) (k + 1)
    ∗ bigSep (Ring.aheadSet (NB := 16) k) (anyStrip c arg1) ∗ bigSep (Ring.behindSet (NB := 16) 2 k) (landed c arg1 (oRows K U W)))

/-- One turn of the drain keeps its invariant. -/
theorem drain_step (K : Vec F S4096x4096 .bf16) (W : Vec F S16x4096 .f32) (U : Vec F S4096x1 .bf16) (k : Fin k0_t6_loop.trips) :
    drainInv c arg1 arg2 arg3 arg5 arg6 arg8 K W U k.val
      ⊢ wp frame (wpE (defs₀ (F := F)) 𝒱₀ (c : Thread nD τ) none) Set.univ (k0_t6_body arg0 harg0 arg1 harg1 arg2 harg2 arg3 harg3 arg4 harg4 arg5 harg5 arg6 harg6 arg7 arg8 k ())
          (fun _ => drainInv c arg1 arg2 arg3 arg5 arg6 arg8 K W U (k.val + 1)) := by
  have hk16 : k.val < 16 := trips6 ▸ k.isLt
  have e2 : trail c arg1 arg3 arg8 (oRows K U W) (k.val + 1 + 1) = flyO c arg1 arg3 arg8 (Ring.sl 2 k.val) (Ring.bk 16 k.val) (oRows K U W (Ring.bk 16 k.val)) := by
    unfold trail; rw [if_pos (by omega), show k.val + 1 + 1 = k.val + 2 from rfl, Ring.sl_add, Nat.add_sub_cancel]
  have ea : bigSep (Ring.aheadSet (NB := 16) k.val) (anyStrip (F := F) c arg1)
      = iprop(anyStrip c arg1 (Ring.bk 16 k.val) ∗ bigSep (Ring.aheadSet (k.val + 1)) (anyStrip c arg1)) := by
    rw [Ring.aheadSet_open k.val hk16, Ring.bigSep_put (Ring.bk_not_mem_aheadSet_succ k.val hk16)]
  unfold drainInv
  rw [e2, ea]
  by_cases hk : 2 ≤ k.val
  · have eb : bigSep (Ring.behindSet (NB := 16) 2 (k.val + 1)) (landed (F := F) c arg1 (oRows K U W))
        = iprop(landed c arg1 (oRows K U W) (Ring.bk 16 (k.val - 2)) ∗ bigSep (Ring.behindSet 2 k.val) (landed c arg1 (oRows K U W))) := by
      rw [Ring.behindSet_close 2 k.val hk hk16, Ring.bigSep_put (Ring.bk_not_mem_behindSet 2 k.val hk hk16)]
    have et : trail c arg1 arg3 arg8 (oRows K U W) k.val = flyO c arg1 arg3 arg8 (Ring.sl 2 k.val) (Ring.bk 16 (k.val - 2)) (oRows K U W (Ring.bk 16 (k.val - 2))) := if_pos hk
    rw [eb, et]
    iintro ⟨HK, HW, HU, HO, HF, HT, ⟨HA, HAs⟩, HB⟩
    iapply (wp_wand_r Idealize.ShloMosaic.frame (wpE (defs₀ (F := F)) 𝒱₀ (c : Thread nD τ) none) Set.univ)
    isplitl [HK HW HU HO HF HA]
    · iapply (trip6 c arg0 harg0 arg1 harg1 arg2 harg2 arg3 harg3 arg4 harg4 arg5 harg5 arg6 harg6 arg7 arg8 k hk K W U _)
      isplitl [HK]; · iexact HK
      isplitl [HW]; · iexact HW
      isplitl [HU]; · iexact HU
      isplitl [HO]; · iexact HO
      isplitl [HF]; · iexact HF
      iexact HA
    · iintro %_ ⟨HK, HW, HU, HO, HL, HF⟩
      isplitl [HK]; · iexact HK
      isplitl [HW]; · iexact HW
      isplitl [HU]; · iexact HU
      isplitl [HO]; · iexact HO
      isplitl [HT]; · iexact HT
      isplitl [HF]; · iexact HF
      isplitl [HAs]; · iexact HAs
      isplitl [HL]; · iexact HL
      iexact HB
  · have eb : Ring.behindSet (NB := 16) 2 (k.val + 1) = Ring.behindSet 2 k.val := by
      rw [Ring.behindSet_boot 2 _ (by omega), Ring.behindSet_boot 2 _ (by omega)]
    have et : trail c arg1 arg3 arg8 (oRows K U W) k.val = iprop(anySlot c arg3 (Ring.sl 2 k.val) ∗ cellP c arg8 (Ring.sl 2 k.val)) := if_neg hk
    rw [eb, et]
    iintro ⟨HK, HW, HU, HO, HF, HT, ⟨HA, HAs⟩, HB⟩
    iapply (wp_wand_r Idealize.ShloMosaic.frame (wpE (defs₀ (F := F)) 𝒱₀ (c : Thread nD τ) none) Set.univ)
    isplitl [HK HW HU HO HF HA]
    · iapply (trip6_boot c arg0 harg0 arg1 harg1 arg2 harg2 arg3 harg3 arg4 harg4 arg5 harg5 arg6 harg6 arg7 arg8 k hk K W U)
      isplitl [HK]; · iexact HK
      isplitl [HW]; · iexact HW
      isplitl [HU]; · iexact HU
      isplitl [HO]; · iexact HO
      isplitl [HF]; · iexact HF
      iexact HA
    · iintro %_ ⟨HK, HW, HU, HO, HF⟩
      isplitl [HK]; · iexact HK
      isplitl [HW]; · iexact HW
      isplitl [HU]; · iexact HU
      isplitl [HO]; · iexact HO
      isplitl [HT]; · iexact HT
      isplitl [HF]; · iexact HF
      isplitl [HAs]; · iexact HAs
      iexact HB

/-- Before iteration `n`. -/
def iterInv (K : Vec F S4096x4096 .bf16) (n : ℕ) : sProp 𝕄 :=
  iprop(holds c arg2 K ∗ holds c arg4 (vIter K n) ∗ ∃ (W : Vec F S16x4096 .f32) (U : Vec F S4096x1 .bf16),
    holds c arg5 W ∗ holds c arg6 U ∗ ⌜n ≠ 0 → U = uFull K (vIter K (n - 1)) ∧ W = wNext K U⌝)

/-- One iteration keeps the invariant of the ten. -/
theorem iter_step (K : Vec F S4096x4096 .bf16) (k : Fin k0_t2_loop.trips) :
    iterInv c arg2 arg4 arg5 arg6 K k.val
      ⊢ wp frame (wpE (defs₀ (F := F)) 𝒱₀ (c : Thread nD τ) none) Set.univ (k0_t2_body arg0 harg0 arg1 harg1 arg2 harg2 arg3 harg3 arg4 harg4 arg5 harg5 arg6 harg6 arg7 arg8 k ())
          (fun _ => iterInv c arg2 arg4 arg5 arg6 K (k.val + 1)) := by
  unfold iterInv
  iintro ⟨HK, HV, %W, %U, HW, HU, -⟩
  iapply (wp_wand_r Idealize.ShloMosaic.frame (wpE (defs₀ (F := F)) 𝒱₀ (c : Thread nD τ) none) Set.univ)
  isplitl [HK HV HW HU]
  · iapply (trip2 c arg0 harg0 arg1 harg1 arg2 harg2 arg3 harg3 arg4 harg4 arg5 harg5 arg6 harg6 arg7 arg8 K k U (vIter K k.val) W)
    isplitl [HK]; · iexact HK
    isplitl [HV]; · iexact HV
    isplitl [HW]; · iexact HW
    iexact HU
  · rw [uAcc_all]
    iintro %_ ⟨HK, HV, HW, HU⟩
    isplitl [HK]; · iexact HK
    isplitl [HV]; · iexact HV
    iexists _, _
    isplitl [HW]; · iexact HW
    isplitl [HU]; · iexact HU
    ipureintro
    exact fun _ => ⟨rfl, rfl⟩

/-- The two scratch slots, the cells, the scratch arrays, at anything. -/
def scratch : sProp 𝕄 :=
  iprop((∃ K : Vec F S4096x4096 .bf16, holds c arg2 K) ∗ (anySlot c arg3 0 ∗ anySlot c arg3 1) ∗ (∃ V : Vec F S16x4096 .bf16, holds c arg4 V)
    ∗ (∃ W : Vec F S16x4096 .f32, holds c arg5 W) ∗ (∃ U : Vec F S4096x1 .bf16, holds c arg6 U))
/-- The cells of both semaphore pairs at zero. -/
def cells0 : sProp 𝕄 := iprop((cellP c arg7 0 ∗ cellP c arg7 1) ∗ (cellP c arg8 0 ∗ cellP c arg8 1))

/-- The body up to its last wait: everything home but strip 15 of the output, on its way out of slot 1. -/
theorem part10_run :
    iprop((homeA c arg0 A 0 ∗ bigSep (Ring.homeSet (NB := 16) 1 0) (homeA c arg0 A)) ∗ bigSep Finset.univ (anyStrip c arg1) ∗ scratch c arg2 arg3 arg4 arg5 arg6 ∗ cells0 c arg7 arg8 ∗ (∃ W, owes (c : Thread nD τ) 0 W))
      ⊢ wp frame (wpE (defs₀ (F := F)) 𝒱₀ (c : Thread nD τ) none) Set.univ (k0_part10 arg0 harg0 arg1 harg1 arg2 harg2 arg3 harg3 arg4 harg4 arg5 harg5 arg6 harg6 arg7 arg8)
          (fun _ => iprop(bigSep Finset.univ (homeA c arg0 A) ∗ (landed c arg1 (outRows A) 14 ∗ bigSep (Ring.behindSet (NB := 16) 2 16) (landed c arg1 (outRows A)))
            ∗ flyO c arg1 arg3 arg8 1 15 (outRows A 15)
            ∗ ((∃ K : Vec F S4096x4096 .bf16, holds c arg2 K) ∗ anySlot c arg3 0 ∗ (∃ V : Vec F S16x4096 .bf16, holds c arg4 V)
              ∗ (∃ W : Vec F S16x4096 .f32, holds c arg5 W) ∗ (∃ U : Vec F S4096x1 .bf16, holds c arg6 U))
            ∗ (cellP c arg7 0 ∗ cellP c arg7 1) ∗ cellP c arg8 0 ∗ (∃ W, owes (c : Thread nD τ) 0 W))) := by
  unfold scratch cells0
  iintro ⟨⟨HA0, HA⟩, HO, ⟨⟨%K, HK⟩, ⟨⟨%S0, HS0⟩, HS1⟩, ⟨%V, HV⟩, ⟨%W, HW⟩, ⟨%U, HU⟩⟩, ⟨⟨HC0, HC1⟩, ⟨HD0, HD1⟩⟩, ⟨%Q, HQ⟩⟩
  rw [k0_part10_eq_skeleton]
  sl_unfold [k0_part10_skel]
  sl_exec
  have ef : Transfers.Flight countersEmb (c : Thread nD τ) (SemLoc.dma (csem arg7 0).sem) () 131072
      iprop(((slot arg3 0).view.loc (c : Thread nD τ) ↦[(slot arg3 0).view.set]{fullShare} (slot arg3 0).view.writes (Elt F) ((slot arg3 0).view.rep S0)
            [⟨Rect.whole S256x4096, part10_run.sl.dma0 arg0 A⟩])
        ∗ (strip arg0 0).view.loc (c : Thread nD τ) ↦[(strip arg0 0).view.set]{fullShare} (strip arg0 0).view.rep (rowsOf A 0)) = lead c arg0 arg3 arg7 A 0 := by
    unfold lead flyA flightP
    rw [if_pos (by decide), landed_eq c (slot arg3 0) (strip arg0 0) ((slot arg3 0).view.rep S0) (rowsOf A 0) (part10_run.sl.dma0 arg0 A) rfl]
    rfl
  ihave HF := (ent_of_eq ef) $$ HC0
  sl_for (fun j _ => fillInv c arg0 arg2 arg3 arg7 A K j) $$ [HK HQ HA HF HS1 HC1]
  case region => intro j _; exact fill_step c arg0 harg0 arg1 harg1 arg2 harg2 arg3 harg3 arg4 harg4 arg5 harg5 arg6 harg6 arg7 arg8 A K j
  · unfold fillInv
    isplitl [HK]; · iexact HK
    isplitl [HQ]; · iexists _; iexact HQ
    isplitl [HA]; · iexact HA
    isplitl [HF]; · iexact HF
    isplitl [HS1]; · iexact HS1
    iexact HC1
  have el1 : Scf.trips k0_t1_loop.lb k0_t1_loop.ub k0_t1_loop.st = 16 := trips1
  rw [el1]
  have eF : fillInv c arg0 arg2 arg3 arg7 A K 16 = iprop(holds c arg2 (kFull A) ∗ (∃ W, owes (c : Thread nD τ) 0 W) ∗ bigSep Finset.univ (homeA c arg0 A)
      ∗ (anySlot c arg3 0 ∗ cellP c arg7 0) ∗ anySlot c arg3 1 ∗ cellP c arg7 1) := by
    unfold fillInv lead
    rw [kAcc_all, if_neg (by decide), Ring.homeSet_last 1 16 (by decide)]
    rfl
  rw [eF]
  iintro %_ ⟨HK, HQ, HA, ⟨HS0, HC0⟩, HS1, HC1⟩
  sl_exec
  ihave HV' := (show (arg4.view.loc (c : Thread nD τ) ↦[arg4.view.set]{fullShare} arg4.view.writes (Elt F) arg4.view.junk part10_run.sl.HV_1 : sProp 𝕄) ⊢ holds c arg4 k0_pay23 from holds_full (F := F) c) $$ HV
  sl_for (fun j _ => iterInv c arg2 arg4 arg5 arg6 (kFull A) j) $$ [HK HV' HW HU]
  case region => intro j _; exact iter_step c arg0 harg0 arg1 harg1 arg2 harg2 arg3 harg3 arg4 harg4 arg5 harg5 arg6 harg6 arg7 arg8 (kFull A) j
  · unfold iterInv
    isplitl [HK]; · iexact HK
    isplitl [HV']; · iexact HV'
    iexists _, _
    isplitl [HW]; · iexact HW
    isplitl [HU]; · iexact HU
    ipureintro
    exact fun h => absurd rfl h
  have el2 : Scf.trips k0_t2_loop.lb k0_t2_loop.ub k0_t2_loop.st = 10 := trips2
  rw [el2]
  unfold iterInv
  iintro %_ ⟨HK, HV, %W', %U', HW, HU, %hUW⟩
  obtain ⟨hU, hW⟩ := hUW (by decide)
  have hU' : U' = uFin (kFull A) := hU
  have hW' : W' = wNext (kFull A) (uFin (kFull A)) := by rw [hW, hU']
  subst hU' hW'
  sl_for (fun j _ => drainInv c arg1 arg2 arg3 arg5 arg6 arg8 (kFull A) (wNext (kFull A) (uFin (kFull A))) (uFin (kFull A)) j) $$ [HK HW HU HQ HS0 HS1 HD0 HD1 HO]
  case region => intro j _; exact drain_step c arg0 harg0 arg1 harg1 arg2 harg2 arg3 harg3 arg4 harg4 arg5 harg5 arg6 harg6 arg7 arg8 (kFull A) _ _ j
  · unfold drainInv trail
    rw [if_neg (by decide), if_neg (by decide), Ring.aheadSet_zero, Ring.behindSet_boot 2 0 (by decide), BI.bigSep_empty]
    isplitl [HK]; · iexact HK
    isplitl [HW]; · iexact HW
    isplitl [HU]; · iexact HU
    isplitl [HQ]; · iexact HQ
    isplitl [HS0 HD0]
    · isplitl [HS0]; · iexact HS0
      iexact HD0
    isplitl [HS1 HD1]
    · isplitl [HS1]; · iexact HS1
      iexact HD1
    isplitl [HO]; · iexact HO
    iempintro
  have el3 : Scf.trips k0_t6_loop.lb k0_t6_loop.ub k0_t6_loop.st = 16 := trips6
  rw [el3]
  have eD : drainInv c arg1 arg2 arg3 arg5 arg6 arg8 (kFull A) (wNext (kFull A) (uFin (kFull A))) (uFin (kFull A)) 16
      = iprop(holds c arg2 (kFull A) ∗ holds c arg5 (wNext (kFull A) (uFin (kFull A))) ∗ holds c arg6 (uFin (kFull A)) ∗ (∃ W, owes (c : Thread nD τ) 0 W)
        ∗ flyO c arg1 arg3 arg8 0 14 (outRows A 14) ∗ flyO c arg1 arg3 arg8 1 15 (outRows A 15)
        ∗ BI.emp ∗ bigSep (Ring.behindSet (NB := 16) 2 16) (landed c arg1 (outRows A))) := by
    unfold drainInv trail
    rw [if_pos (by decide), if_pos (by decide), Ring.aheadSet_end 16 (by decide), BI.bigSep_empty]
    rfl
  rw [eD]
  iintro %_ ⟨HK, HW, HU, ⟨%Q', HQ⟩, HF0, HF1, -, HB⟩
  sl_exec
  sl_step
  isplitl [HA]; · iexact HA
  isplitl [HF0_dst HB]
  · isplitl [HF0_dst]; · iexact HF0_dst
    iexact HB
  isplitl [HF1]; · iexact HF1
  isplitl [HK HF0_src HV HW HU]
  · isplitl [HK]; · iexists _; iexact HK
    isplitl [HF0_src]; · iexists _; iexact HF0_src
    isplitl [HV]; · iexists _; iexact HV
    isplitl [HW]; · iexists _; iexact HW
    iexists _; iexact HU
  isplitl [HC0 HC1]
  · isplitl [HC0]; · iexact HC0
    iexact HC1
  isplitl [HF0]; · iexact HF0
  iexists _; iexact HQ

/-- The body: from the input in its strips, the output in its strips at anything, leaves the input as it was and the output at `outRows`. -/
theorem body_run :
    iprop(bigSep Finset.univ (homeA c arg0 A) ∗ bigSep Finset.univ (anyStrip c arg1) ∗ scratch c arg2 arg3 arg4 arg5 arg6 ∗ cells0 c arg7 arg8 ∗ (∃ W, owes (c : Thread nD τ) 0 W))
      ⊢ wp frame (wpE (defs₀ (F := F)) 𝒱₀ (c : Thread nD τ) none) Set.univ (cc0__sinkhorn_body arg0 harg0 arg1 harg1 arg2 harg2 arg3 harg3 arg4 harg4 arg5 harg5 arg6 harg6 arg7 arg8)
          (fun _ => iprop(bigSep Finset.univ (homeA c arg0 A) ∗ bigSep Finset.univ (landed c arg1 (outRows A)) ∗ scratch c arg2 arg3 arg4 arg5 arg6 ∗ cells0 c arg7 arg8 ∗ (∃ W, owes (c : Thread nD τ) 0 W))) := by
  have h0 : bigSep Finset.univ (homeA (F := F) c arg0 A) = iprop(homeA c arg0 A 0 ∗ bigSep (Ring.homeSet (NB := 16) 1 0) (homeA c arg0 A)) := by
    have e : (Finset.univ : Finset (Fin 16)) = insert 0 (Ring.homeSet (NB := 16) 1 0) := by decide
    conv_lhs => rw [e, Ring.bigSep_put (by decide)]
  have h1 : bigSep Finset.univ (landed (F := F) c arg1 (outRows A)) = iprop(landed c arg1 (outRows A) 15 ∗ landed c arg1 (outRows A) 14 ∗ bigSep (Ring.behindSet (NB := 16) 2 16) (landed c arg1 (outRows A))) := by
    have e : (Finset.univ : Finset (Fin 16)) = insert 15 (insert 14 (Ring.behindSet (NB := 16) 2 16)) := by decide
    conv_lhs => rw [e, Ring.bigSep_put (by decide), Ring.bigSep_put (by decide)]
  conv_lhs => rw [h0]
  rw [h1, cc0__sinkhorn_body_eq_skeleton]
  sl_unfold [cc0__sinkhorn_body_skel]
  rw [wp_bind]
  iintro H
  iapply (wp_wand_r Idealize.ShloMosaic.frame (wpE (defs₀ (F := F)) 𝒱₀ (c : Thread nD τ) none) Set.univ)
  isplitl [H]
  · iapply (part10_run c arg0 harg0 arg1 harg1 arg2 harg2 arg3 harg3 arg4 harg4 arg5 harg5 arg6 harg6 arg7 arg8 A)
    iexact H
  · unfold scratch cells0
    iintro %_ ⟨HA, ⟨HL14, HB⟩, HF, ⟨HK, HS0, HV, HW, HU⟩, HC, HD0, ⟨%Q, HQ⟩⟩
    sl_exec
    sl_step
    isplitl [HA]; · iexact HA
    isplitl [HF_dst HL14 HB]
    · isplitl [HF_dst]; · iexact HF_dst
      isplitl [HL14]; · iexact HL14
      iexact HB
    isplitl [HK HS0 HF_src HV HW HU]
    · isplitl [HK]; · iexact HK
      isplitl [HS0 HF_src]
      · isplitl [HS0]; · iexact HS0
        iexists _; iexact HF_src
      isplitl [HV]; · iexact HV
      isplitl [HW]; · iexact HW
      iexact HU
    isplitl [HC HD0 HF]
    · isplitl [HC]; · iexact HC
      isplitl [HD0]; · iexact HD0
      iexact HF
    iexists _; iexact HQ

end Body

end Cert.Proof.Sinkhorn

end
-- ==== Proof.Arrays.lean ====
/-
  Arrays as their parts: an array in HBM is its sixteen strips, the staging buffer its two slots, a whole buffer what it holds.
-/
module

public import proofs.«01_k».proof.Proof.Body
public import Idealize.ShloMosaic.Lib.Pipeline.Regions
public import Idealize.ShloMosaic.Lib.Pipeline.Frame

@[expose] public section

set_option maxRecDepth 16384

noncomputable section

namespace Cert.Proof.Sinkhorn

open Cert.KernelIdeal Cert.KernelIdeal.Gen
open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## Element sets -/

/-- The elements of strip `b`. -/
abbrev stripSet (b : Fin 16) : Finset S4096x4096.Idx := (Rect.unit (s := S4096x4096) (stripOff b) S256x4096.size (stripOff_inb b)).set
/-- The elements of slot `s`. -/
abbrev slotSet (s : Fin 2) : Finset S2x256x4096.Idx := (Rect.unit (s := S2x256x4096) (slotOff s) S1x256x4096.size (slotOff_inb s)).set

/-- An element lies in the strip that its row lies in. -/
theorem mem_stripSet (b : Fin 16) (y : S4096x4096.Idx) : y ∈ stripSet b ↔ (y 0).val / 256 = b.val := by
  rw [Rect.mem_set_unit]
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
/-- An element lies in the slot of its first coordinate. -/
theorem mem_slotSet (s : Fin 2) (y : S2x256x4096.Idx) : y ∈ slotSet s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega

/-- The elements of a strip of an array, -/
theorem strip_set (M : Memref sig .tc .hbm S4096x4096 .f32) (b : Fin 16) : (strip M b).view.set = (stripSet b).map M.view.emb := View.set_slice _ _
/-- and of a slot. -/
theorem slot_set (M : Memref sig .tc .vmem S2x256x4096 .f32) (s : Fin 2) : (slot M s).view.set = (slotSet s).map M.view.emb :=
  (View.set_reshape _ _).trans (View.set_slice _ _)

/-- Different strips share no element, -/
theorem strip_disjoint (M : Memref sig .tc .hbm S4096x4096 .f32) (b b' : Fin 16) (h : b ≠ b') : Disjoint ((stripSet b).map M.view.emb) ((stripSet b').map M.view.emb) := by
  rw [Finset.disjoint_map, Finset.disjoint_left]
  intro y hy hy'
  rw [mem_stripSet] at hy hy'
  exact h (Fin.ext (hy.symm.trans hy'))
/-- nor do the two slots; -/
theorem slot_disjoint (M : Memref sig .tc .vmem S2x256x4096 .f32) (b b' : Fin 2) (h : b ≠ b') : Disjoint ((slotSet b).map M.view.emb) ((slotSet b').map M.view.emb) := by
  rw [Finset.disjoint_map, Finset.disjoint_left]
  intro y hy hy'
  rw [mem_slotSet] at hy hy'
  exact h (Fin.ext (hy.symm.trans hy'))
/-- the strips cover the array, -/
theorem strip_cover (M : Memref sig .tc .hbm S4096x4096 .f32) : (Finset.univ : Finset (Fin 16)).biUnion (fun b => (stripSet b).map M.view.emb) = M.view.set := by
  apply Finset.ext; intro x
  rw [Finset.mem_biUnion]
  constructor
  · rintro ⟨b, -, h⟩
    obtain ⟨y, -, rfl⟩ := Finset.mem_map.mp h
    exact Finset.mem_map.mpr ⟨y, Finset.mem_univ _, rfl⟩
  · intro h
    obtain ⟨y, -, rfl⟩ := Finset.mem_map.mp h
    exact ⟨stripOf (y 0), Finset.mem_univ _, Finset.mem_map.mpr ⟨y, (mem_stripSet _ _).mpr rfl, rfl⟩⟩
/-- and the slots the staging buffer. -/
theorem slot_cover (M : Memref sig .tc .vmem S2x256x4096 .f32) : (Finset.univ : Finset (Fin 2)).biUnion (fun b => (slotSet b).map M.view.emb) = M.view.set := by
  apply Finset.ext; intro x
  rw [Finset.mem_biUnion]
  constructor
  · rintro ⟨b, -, h⟩
    obtain ⟨y, -, rfl⟩ := Finset.mem_map.mp h
    exact Finset.mem_map.mpr ⟨y, Finset.mem_univ _, rfl⟩
  · intro h
    obtain ⟨y, -, rfl⟩ := Finset.mem_map.mp h
    exact ⟨y 0, Finset.mem_univ _, Finset.mem_map.mpr ⟨y, (mem_slotSet _ _).mpr rfl, rfl⟩⟩

/-- A separating conjunction over the two slots. -/
theorem bigSep_two (Φ : Fin 2 → sProp 𝕄) : bigSep Finset.univ Φ = iprop(Φ 0 ∗ Φ 1) :=
  bigSep_univ_eq_bigSepL [(0 : Fin 2), (1 : Fin 2)] (by decide) (by decide) Φ
/-- A slot's elements, held at buffer contents. -/
theorem slot_at (c : Dev nD) (M : Memref sig .tc .vmem S2x256x4096 .f32) (s : Fin 2) (f : Buf (Elt F) (M.view.loc (c : Thread nD τ))) :
    (M.view.loc (c : Thread nD τ) ↦[(slotSet s).map M.view.emb]{fullShare} f : sProp 𝕄) = (slot M s).view.loc (c : Thread nD τ) ↦[(slot M s).view.set]{fullShare} f :=
  congrArg (fun S => (M.view.loc (c : Thread nD τ) ↦[S]{fullShare} f : sProp 𝕄)) (slot_set M s).symm

/-! ## The arrays -/

/-- An array held at `X` is its strips, each held at its rows of `X`. -/
theorem holds_strips (c : Dev nD) (M : Memref sig .tc .hbm S4096x4096 .f32) (X : Vec F S4096x4096 .f32) :
    (holds c M X : sProp 𝕄) = bigSep Finset.univ fun b => holds c (strip M b) (rowsOf X b) := by
  unfold holds
  rw [Ring.pointsTo_sub_blocks (ℓ := M.view.loc (c : Thread nD τ)) (fun b : Fin 16 => (stripSet b).map M.view.emb) (strip_disjoint M) M.view.set (strip_cover M)]
  refine bigSep_congr fun b _ => ?_
  refine (congrArg (fun S => (M.view.loc (c : Thread nD τ) ↦[S]{fullShare} M.view.rep X : sProp 𝕄)) (strip_set M b).symm).trans ?_
  refine (pointsTo_rep (c : Thread nD τ) (strip M b) (M.view.rep X) fullShare).trans ?_
  refine congrArg (fun Y => ((strip M b).view.loc (c : Thread nD τ) ↦[(strip M b).view.set]{fullShare} (strip M b).view.rep Y : sProp 𝕄)) ?_
  funext y
  exact congrFun (View.read_rep M.view X) _

/-- The array whose strips are `O`. -/
def joined (O : Fin 16 → Vec F S256x4096 .f32) : Vec F S4096x4096 .f32 :=
  fun y => O (stripOf (y 0)) (ix2 (⟨(y 0).val % 256, Nat.mod_lt _ (by decide)⟩ : Fin 256) (y 1))
/-- Strip `b` of it is `O b`. -/
theorem rowsOf_joined (O : Fin 16 → Vec F S256x4096 .f32) (b : Fin 16) : rowsOf (joined O) b = O b := by
  funext y
  obtain ⟨a, l, rfl⟩ : ∃ (a : Fin 256) (l : Fin 4096), y = ix2 a l := ⟨y 0, y 1, eq_ix2 y⟩
  unfold rowsOf VecWindow.window joined
  have e0 : stripOf (((Rect.unit (s := S4096x4096) (stripOff b) S256x4096.size (stripOff_inb b)).emb (ix2 a l)) 0) = b := by
    apply Fin.ext
    show (256 * b.val + 1 * a.val) / 256 = b.val
    omega
  rw [e0]
  refine congrArg _ ?_
  funext i; apply Fin.ext; fin_cases i
  · show (256 * b.val + 1 * a.val) % 256 = a.val; omega
  · show 0 + 1 * l.val = l.val; omega

/-- A whole buffer held at `X`. -/
theorem holds_whole (c : Dev nD) (r : Ref sig .tc) (X : r.ty.Contents (Elt F)) :
    (holds c (Memref.whole r) X : sProp 𝕄) = (((c : Thread nD τ).loc r) ↦{fullShare} X) := by
  have h := pointsTo_rep (Ix := Unit) (Name := ℕ) (U := UU nD τ) (Lvl := ℕ) (c : Thread nD τ) (Memref.whole r) X fullShare
  have hs : (Memref.whole r).view.set = Finset.univ := View.set_whole r
  have hr : (Memref.whole r).view.read (Elt F) X = X := View.read_whole r X
  unfold holds
  rw [hr] at h
  refine h.symm.trans ?_
  rw [hs]

/-- The staging buffer at anything is its two slots at anything, -/
theorem slots_split (c : Dev nD) (M : Memref sig .tc .vmem S2x256x4096 .f32) :
    iprop(∃ f : Buf (Elt F) (M.view.loc (c : Thread nD τ)), M.view.loc (c : Thread nD τ) ↦[M.view.set]{fullShare} f) ⊢ (iprop(anySlot c M 0 ∗ anySlot c M 1) : sProp 𝕄) := by
  iintro ⟨%f, H⟩
  ihave H2 := (ent_of_eq ((Ring.pointsTo_sub_blocks (Ix := Unit) (Name := ℕ) (U := UU nD τ) (Lvl := ℕ) (q := fullShare) (ℓ := M.view.loc (c : Thread nD τ)) (fun b : Fin 2 => (slotSet b).map M.view.emb) (slot_disjoint M) M.view.set (slot_cover M) f).trans
    (bigSep_two _))) $$ H
  icases H2 with ⟨H0, H1⟩
  isplitl [H0]
  · iexists _
    iapply ((ent_of_eq (slot_at c M 0 f)).trans (pointsTo_rep_entails (c : Thread nD τ) (slot M 0) f fullShare)); iexact H0
  · iexists _
    iapply ((ent_of_eq (slot_at c M 1 f)).trans (pointsTo_rep_entails (c : Thread nD τ) (slot M 1) f fullShare)); iexact H1
/-- and back. -/
theorem slots_join (c : Dev nD) (M : Memref sig .tc .vmem S2x256x4096 .f32) :
    iprop(anySlot c M 0 ∗ anySlot c M 1) ⊢ (iprop(∃ f : Buf (Elt F) (M.view.loc (c : Thread nD τ)), M.view.loc (c : Thread nD τ) ↦[M.view.set]{fullShare} f) : sProp 𝕄) := by
  iintro ⟨⟨%f0, H0⟩, ⟨%f1, H1⟩⟩
  iapply (Ring.pointsTo_sub_blocks_join_exists (ℓ := M.view.loc (c : Thread nD τ)) (fun b : Fin 2 => (slotSet b).map M.view.emb) (slot_disjoint M) M.view.set (slot_cover M) ((slot M 0).view.rep f0))
  iapply (ent_of_eq (bigSep_two (fun b => iprop(∃ f : Buf (Elt F) (M.view.loc (c : Thread nD τ)), M.view.loc (c : Thread nD τ) ↦[(slotSet b).map M.view.emb]{fullShare} f))).symm)
  isplitl [H0]
  · iexists _; iapply (ent_of_eq (slot_at c M 0 _).symm); iexact H0
  · iexists _; iapply (ent_of_eq (slot_at c M 1 _).symm); iexact H1

end Cert.Proof.Sinkhorn

end
-- ==== Proof.Same.lean ====
/-
  The program read at bits and the program read at the extended reals are one text: a run of the one is a run of the other.
-/
module

public import proofs.«01_k».proof.Defs
public import proofs.«01_k».proof.Proof.Gen.Kernel
public import proofs.«01_k».proof.Proof.Gen.KernelIdeal

@[expose] public section

set_option maxRecDepth 65536

noncomputable section

namespace Cert.Proof.Same

open Idealize.ShloMosaic Idealize.SL.Sem

variable {F : FTy → Type} [FloatOps F]

/-- The second call's body is the first call's. -/
theorem k1_eq_k0 : @Cert.KernelIdeal.cc1__sinkhorn_body F _ _ = @Cert.KernelIdeal.cc0__sinkhorn_body F _ _ := rfl

/-- What every run of the one program ends in, every run of the other ends in. -/
theorem run_eq (m : (ℓ : Loc Cert.KernelIdeal.nD Cert.KernelIdeal.τ Cert.KernelIdeal.sig) → Buf (Elt F) ℓ)
    (ρ : Dev Cert.KernelIdeal.nD → PrngReg) (Q)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := h

end Cert.Proof.Same

end
-- ==== Proof.Launch.lean ====
/-
  The launch: the body on whole buffers, the two calls as segments of the program, and what every run ends with.
-/
module

public import proofs.«01_k».proof.Proof.Arrays
public import proofs.«01_k».proof.Proof.Same
public import proofs.«01_k».proof.Proof.Gen.KernelIdeal.Launch
public import Idealize.ShloMosaic.Lib.Pipeline.Frame
public import Idealize.ShloMosaic.Lib.Pipeline.Kit
public import Idealize.ShloMosaic.Lib.Pipeline.Regions

@[expose] public section

set_option maxRecDepth 16384

noncomputable section

namespace Cert.Proof.Sinkhorn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg BodyObligation)

variable {F : FTy → Type} [FloatOps F]

local notation "𝕄" => MT nD τ sig Unit (Elt F) ℕ (UU nD τ) ℕ

/-- The array that one call leaves for the logits `A`. -/
def sinkhorn (A : Vec F S4096x4096 .f32) : Vec F S4096x4096 .f32 := joined (outRows A)

/-- Core `c` owes nothing. -/
abbrev quits (c : Dev nD) : sProp 𝕄 := iprop(∃ W, owes (c : Thread nD τ) (0 : CellTallies nD τ sig Unit) W)
/-- A memref's elements at anything. -/
abbrev anyM (c : Dev nD) {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

section Whole

variable (c : Dev nD)
  (arg0 : Memref sig .tc .hbm S4096x4096 .f32) (harg0 : arg0.IsWhole) (arg1 : Memref sig .tc .hbm S4096x4096 .f32) (harg1 : arg1.IsWhole)
  (arg2 : Memref sig .tc .vmem S4096x4096 .bf16) (harg2 : arg2.IsWhole) (arg3 : Memref sig .tc .vmem S2x256x4096 .f32) (harg3 : arg3.IsWhole)
  (arg4 : Memref sig .tc .vmem S16x4096 .bf16) (harg4 : arg4.IsWhole) (arg5 : Memref sig .tc .vmem S16x4096 .f32) (harg5 : arg5.IsWhole)
  (arg6 : Memref sig .tc .vmem S4096x1 .bf16) (harg6 : arg6.IsWhole) (arg7 : DmaSems sig S2) (arg8 : DmaSems sig S2)

/-- A memref's elements at anything are held at some values, -/
theorem anyM_holds {sp : Space} {S : Shape} {e : EltTy} (M : Memref sig .tc sp S e) : anyM (F := F) c M ⊢ iprop(∃ X : Vec F S e, holds c M X) := by
  iintro ⟨%f, H⟩
  iexists _
  iapply (pointsTo_rep_entails (c : Thread nD τ) M f fullShare); iexact H
/-- and back. -/
theorem holds_anyM {sp : Space} {S : Shape} {e : EltTy} (M : Memref sig .tc sp S e) : iprop(∃ X : Vec F S e, holds c M X) ⊢ anyM (F := F) c M := by
  iintro ⟨%X, H⟩
  iexists _; iexact H

/-- A strip held at some values is held at anything. -/
theorem any_of_holds (b : Fin 16) (X : Vec F S256x4096 .f32) : (holds c (strip arg1 b) X : sProp 𝕄) ⊢ iprop(∃ X : Vec F S256x4096 .f32, holds c (strip arg1 b) X) := by
  iintro H; iexists _; iexact H

/-- The body on whole arrays: the input stays, the output becomes `sinkhorn` of it. -/
theorem body_whole (A X : Vec F S4096x4096 .f32) :
    iprop(holds c arg0 A ∗ holds c arg1 X ∗ (anyM c arg2 ∗ anyM c arg3 ∗ anyM c arg4 ∗ anyM c arg5 ∗ anyM c arg6) ∗ cells0 c arg7 arg8 ∗ quits c)
      ⊢ wp frame (wpE (defs₀ (F := F)) 𝒱₀ (c : Thread nD τ) none) Set.univ (cc0__sinkhorn_body arg0 harg0 arg1 harg1 arg2 harg2 arg3 harg3 arg4 harg4 arg5 harg5 arg6 harg6 arg7 arg8)
          (fun _ => iprop(holds c arg0 A ∗ holds c arg1 (sinkhorn A) ∗ (anyM c arg2 ∗ anyM c arg3 ∗ anyM c arg4 ∗ anyM c arg5 ∗ anyM c arg6) ∗ cells0 c arg7 arg8 ∗ quits c)) := by
  have hO : (holds c arg1 (sinkhorn A) : sProp 𝕄) = bigSep Finset.univ (landed c arg1 (outRows A)) := by
    rw [holds_strips]
    exact bigSep_congr fun b _ => by rw [sinkhorn, rowsOf_joined]
  rw [hO, holds_strips c arg0 A, holds_strips c arg1 X]
  iintro ⟨HA, HO, ⟨H2, H3, H4, H5, H6⟩, HC, HQ⟩
  ihave H2 := (anyM_holds c arg2) $$ H2
  ihave H3 := (slots_split c arg3) $$ H3
  ihave H4 := (anyM_holds c arg4) $$ H4
  ihave H5 := (anyM_holds c arg5) $$ H5
  ihave H6 := (anyM_holds c arg6) $$ H6
  iapply (wp_wand_r Idealize.ShloMosaic.frame (wpE (defs₀ (F := F)) 𝒱₀ (c : Thread nD τ) none) Set.univ)
  isplitl [HA HO H2 H3 H4 H5 H6 HC HQ]
  · iapply (body_run c arg0 harg0 arg1 harg1 arg2 harg2 arg3 harg3 arg4 harg4 arg5 harg5 arg6 harg6 arg7 arg8 A)
    isplitl [HA]; · iexact HA
    isplitl [HO]
    · iapply (show (bigSep Finset.univ (fun b => holds c (strip arg1 b) (rowsOf X b)) : sProp 𝕄) ⊢ bigSep Finset.univ (anyStrip c arg1) from
        bigSep_mono fun b _ => any_of_holds c arg1 b (rowsOf X b))
      iexact HO
    unfold scratch
    isplitl [H2 H3 H4 H5 H6]
    · isplitl [H2]; · iexact H2
      isplitl [H3]; · iexact H3
      isplitl [H4]; · iexact H4
      isplitl [H5]; · iexact H5
      iexact H6
    isplitl [HC]; · iexact HC
    iexact HQ
  · unfold scratch
    iintro %_ ⟨HA, HO, ⟨H2, H3, H4, H5, H6⟩, HC, HQ⟩
    isplitl [HA]; · iexact HA
    isplitl [HO]; · iexact HO
    isplitl [H2 H3 H4 H5 H6]
    · isplitl [H2]; · iapply (holds_anyM c arg2); iexact H2
      isplitl [H3]; · iapply (slots_join c arg3); iexact H3
      isplitl [H4]; · iapply (holds_anyM c arg4); iexact H4
      isplitl [H5]; · iapply (holds_anyM c arg5); iexact H5
      iapply (holds_anyM c arg6); iexact H6
    isplitl [HC]; · iexact HC
    iexact HQ

/-- The same with each array said in other words, and anything beside. -/
theorem body_buffers (A X : Vec F S4096x4096 .f32) (PA PO : Vec F S4096x4096 .f32 → sProp 𝕄) (P2 P3 P4 P5 P6 R : sProp 𝕄)
    (hA : ∀ Y, holds c arg0 Y = PA Y) (hO : ∀ Y, holds c arg1 Y = PO Y)
    (h2 : anyM (F := F) c arg2 = P2) (h3 : anyM (F := F) c arg3 = P3) (h4 : anyM (F := F) c arg4 = P4) (h5 : anyM (F := F) c arg5 = P5) (h6 : anyM (F := F) c arg6 = P6) :
    iprop((PA A ∗ PO X ∗ cells0 c arg7 arg8 ∗ (P2 ∗ P3 ∗ P4 ∗ P5 ∗ P6) ∗ R) ∗ quits c)
      ⊢ wp frame (wpE (defs₀ (F := F)) 𝒱₀ (c : Thread nD τ) none) Set.univ (cc0__sinkhorn_body arg0 harg0 arg1 harg1 arg2 harg2 arg3 harg3 arg4 harg4 arg5 harg5 arg6 harg6 arg7 arg8)
          (fun _ => iprop((PA A ∗ PO (sinkhorn A) ∗ cells0 c arg7 arg8 ∗ (P2 ∗ P3 ∗ P4 ∗ P5 ∗ P6) ∗ R) ∗ quits c)) := by
  subst h2 h3 h4 h5 h6
  rw [← hA A, ← hO X, ← hO (sinkhorn A)]
  iintro ⟨⟨HA, HO, HC, HS, HR⟩, HQ⟩
  iapply (wp_wand_r Idealize.ShloMosaic.frame (wpE (defs₀ (F := F)) 𝒱₀ (c : Thread nD τ) none) Set.univ)
  isplitl [HA HO HC HS HQ]
  · iapply (body_whole c arg0 harg0 arg1 harg1 arg2 harg2 arg3 harg3 arg4 harg4 arg5 harg5 arg6 harg6 arg7 arg8 A X)
    isplitl [HA]; · iexact HA
    isplitl [HO]; · iexact HO
    isplitl [HS]; · iexact HS
    isplitl [HC]; · iexact HC
    iexact HQ
  · iintro %_ ⟨HA, HO, HS, HC, HQ⟩
    isplitr [HQ]
    · isplitl [HA]; · iexact HA
      isplitl [HO]; · iexact HO
      isplitl [HC]; · iexact HC
      isplitl [HS]; · iexact HS
      iexact HR
    iexact HQ

end Whole

/-! ## Whole buffers -/

/-- A buffer held whole. -/
abbrev pt (c : Dev nD) (r : Ref sig .tc) (X : Buf (Elt F) ((c : Thread nD τ).loc r)) : sProp 𝕄 := ((c : Thread nD τ).loc r) ↦{fullShare} X
/-- A buffer held whole at anything. -/
abbrev anyR (c : Dev nD) (r : Ref sig .tc) : sProp 𝕄 := iprop(∃ f : Buf (Elt F) ((c : Thread nD τ).loc r), ((c : Thread nD τ).loc r) ↦{fullShare} f)
/-- The same through the buffer's whole memref. -/
theorem anyM_whole (c : Dev nD) (r : Ref sig .tc) : (anyM (F := F) c (Memref.whole r) : sProp 𝕄) = anyR c r := by
  have hs : (Memref.whole r).view.set = Finset.univ := View.set_whole r
  unfold anyM
  rw [hs]

/-- The own semaphores of a call: its two pairs' cells. -/
abbrev ownSem (A B : DmaSems sig S2) : Fin 4 → SemLoc sig := fun k => .dma ((![csem A 0, csem A 1, csem B 0, csem B 1] k).sem)
/-- The first launch's own semaphores are scoped, distinct, and none is a window's; -/
theorem ownSem0_facts : Pipeline.OwnSemFacts cfg0.spec (ownSem cc0_scratch5 cc0_scratch6) := by decide
/-- so are the second's. -/
theorem ownSem1_facts : Pipeline.OwnSemFacts cfg1.spec (ownSem cc1_scratch5 cc1_scratch6) := by decide
/-- A separating conjunction over the four. -/
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
/-- At zero they are the cells of both pairs at zero. -/
theorem ownSems0_cells (c : Dev nD) (A B : DmaSems sig S2) :
    (Pipeline.ownSems0 (Ix := Unit) (Name := ℕ) (U := UU nD τ) (Lvl := ℕ) (Val := Elt F) (τ := τ) (ownSem A B) c : sProp 𝕄) ⊣⊢ cells0 c A B := by
  unfold Pipeline.ownSems0 cells0
  rw [bigSep_four]
  constructor
  · iintro ⟨H0, H1, H2, H3⟩
    isplitl [H0 H1]
    · isplitl [H0]; · iexact H0
      iexact H1
    isplitl [H2]; · iexact H2
    iexact H3
  · iintro ⟨⟨H0, H1⟩, H2, H3⟩
    isplitl [H0]; · iexact H0
    isplitl [H1]; · iexact H1
    isplitl [H2]; · iexact H2
    iexact H3

/-! ## The calls as segments -/

variable (m : (ℓ : Loc nD τ sig) → Buf (Elt F) ℓ) (ρ : Dev nD → PrngReg)

/-- A call's scratch. -/
abbrev five (c : Dev nD) (r0 r1 r2 r3 r4 : Ref sig .tc) : sProp 𝕄 := iprop(anyR (F := F) c r0 ∗ anyR c r1 ∗ anyR c r2 ∗ anyR c r3 ∗ anyR c r4)
/-- The first call's scratch, -/
abbrev mine0 (c : Dev nD) : sProp 𝕄 := five (F := F) c cc0_scratch0 cc0_scratch1 cc0_scratch2 cc0_scratch3 cc0_scratch4
/-- the second's. -/
abbrev mine1 (c : Dev nD) : sProp 𝕄 := five (F := F) c cc1_scratch0 cc1_scratch1 cc1_scratch2 cc1_scratch3 cc1_scratch4

/-- All scratch of the program is the first call's and the second's. -/
theorem rest_eq (c : Dev nD) {R : sProp 𝕄} (h : R = iprop(anyR (F := F) c cc0_scratch0 ∗ anyR c cc0_scratch1 ∗ anyR c cc0_scratch2 ∗ anyR c cc0_scratch3 ∗ anyR c cc0_scratch4
      ∗ anyR c cc1_scratch0 ∗ anyR c cc1_scratch1 ∗ anyR c cc1_scratch2 ∗ anyR c cc1_scratch3 ∗ anyR c cc1_scratch4)) :
    R ⊣⊢ iprop(mine0 (F := F) c ∗ mine1 (F := F) c) := by
  subst h
  constructor
  · iintro ⟨H0, H1, H2, H3, H4, H⟩
    isplitr [H]
    · isplitl [H0]; · iexact H0
      isplitl [H1]; · iexact H1
      isplitl [H2]; · iexact H2
      isplitl [H3]; · iexact H3
      iexact H4
    iexact H
  · iintro ⟨⟨H0, H1, H2, H3, H4⟩, H⟩
    isplitl [H0]; · iexact H0
    isplitl [H1]; · iexact H1
    isplitl [H2]; · iexact H2
    isplitl [H3]; · iexact H3
    isplitl [H4]; · iexact H4
    iexact H

/-- The first call's state: its input, its output at `X`, its cells, the scratch. -/
def Φ0 (c : Dev nD) (X : Vec F S4096x4096 .f32) : sProp 𝕄 :=
  iprop(pt c main_arg0 (m ((c : Thread nD τ).loc main_arg0)) ∗ pt c main_v0 X ∗ cells0 c cc0_scratch5 cc0_scratch6 ∗ mine0 c ∗ mine1 c)
/-- The second's. -/
def Φ1 (c : Dev nD) (X : Vec F S4096x4096 .f32) : sProp 𝕄 :=
  iprop(pt c main_arg1 (m ((c : Thread nD τ).loc main_arg1)) ∗ pt c main_v1 X ∗ cells0 c cc1_scratch5 cc1_scratch6 ∗ mine1 c ∗ mine0 c)

/-- What holds before the one point, and after it. -/
def phase (P Q : sProp 𝕄) : ℕ → sProp 𝕄
  | 0 => P
  | _ + 1 => Q

/-- What the first launch's step takes and leaves; -/
def dat0 (c : Dev nD) : Dat τ (Elt F) Unit ℕ (UU nD τ) ℕ cfg0 c where
  A w := w.elim0
  after w := w.elim0
  Φ t := phase (Φ0 m c (m ((c : Thread nD τ).loc main_v0))) (Φ0 m c (sinkhorn (m ((c : Thread nD τ).loc main_arg0)))) t.val
  q _ := fullShare
  owed _ := 0
/-- the second's; -/
def dat1 (c : Dev nD) : Dat τ (Elt F) Unit ℕ (UU nD τ) ℕ cfg1 c where
  A w := w.elim0
  after w := w.elim0
  Φ t := phase (Φ1 m c (m ((c : Thread nD τ).loc main_v1))) (Φ1 m c (sinkhorn (m ((c : Thread nD τ).loc main_arg1)))) t.val
  q _ := fullShare
  owed _ := 0
/-- both. -/
def pdats : (p : Fin 2) → (c : Dev nD) → Dat τ (Elt F) Unit ℕ (UU nD τ) ℕ (cfgs p) c
  | ⟨0, _⟩ => dat0 m
  | ⟨1, _⟩ => dat1 m

/-- The first launch's step is the kernel's body; -/
theorem prog_eq0 (t : Fin cfg0.N) : (defs₀ (F := F)) .tc cfg0.body (cfg0.bodyArgs t (cfg0.slots t)) =
    cc0__sinkhorn_body (Memref.whole main_arg0) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 := rfl
/-- so is the second's. -/
theorem prog_eq1 (t : Fin cfg1.N) : (defs₀ (F := F)) .tc cfg1.body (cfg1.bodyArgs t (cfg1.slots t)) =
    cc0__sinkhorn_body (Memref.whole main_arg1) (Memref.isWhole_whole _) (Memref.whole main_v1) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 :=
  (show _ = cc1__sinkhorn_body _ _ _ _ _ _ _ _ _ _ _ _ _ _ _ _ from rfl).trans (by rw [Same.k1_eq_k0])

set_option backward.isDefEq.respectTransparency.types false in
/-- What the body of call 0 owes the launch. -/
theorem body_obligation0 (c : Dev nD) : BodyObligation (dat0 (F := F) m c) (defs₀ (F := F)) 𝒱₀ () Set.univ := fun t => by
  obtain rfl := fin_N0 t
  rw [show (dat0 m c).Φ t0_0.castSucc = Φ0 m c (m ((c : Thread nD τ).loc main_v0)) from rfl,
    show (dat0 m c).Φ t0_0.succ = Φ0 m c (sinkhorn (m ((c : Thread nD τ).loc main_arg0))) from rfl, prog_eq0]
  unfold Dat.owesAt Pipeline.owesWithin Φ0
  rw [show (dat0 m c).owed t0_0.castSucc = 0 from rfl, show (dat0 m c).owed t0_0.succ = 0 from rfl]
  simp only [show (Finset.univ : Finset (Fin cfg0.W)) = ∅ from rfl, BI.bigSep_empty]
  iintro ⟨HΦ, ⟨%W, -, HW⟩, -⟩
  iapply (wp_wand_r Idealize.ShloMosaic.frame (wpE (defs₀ (F := F)) 𝒱₀ (c : Thread nD τ) none) Set.univ)
  isplitl [HΦ HW]
  · iapply (body_buffers c (Memref.whole main_arg0) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (m ((c : Thread nD τ).loc main_arg0)) (m ((c : Thread nD τ).loc main_v0))
      (fun Y => pt c main_arg0 Y) (fun Y => pt c main_v0 Y) _ _ _ _ _ (mine1 c) (holds_whole c main_arg0) (holds_whole c main_v0)
      (anyM_whole c _) (anyM_whole c _) (anyM_whole c _) (anyM_whole c _) (anyM_whole c _))
    isplitl [HΦ]; · iexact HΦ
    iexists W; iexact HW
  · iintro %_ ⟨HΦ, ⟨%W', HW⟩⟩
    isplitl [HΦ]; · iexact HΦ
    isplitl [HW]
    · iexists W'; isplitr; · ipureintro; exact fun _ _ => Or.inl trivial
      iexact HW
    iempintro

set_option backward.isDefEq.respectTransparency.types false in
/-- What the body of call 1 owes the launch. -/
theorem body_obligation1 (c : Dev nD) : BodyObligation (dat1 (F := F) m c) (defs₀ (F := F)) 𝒱₀ () Set.univ := fun t => by
  obtain rfl := fin_N1 t
  rw [show (dat1 m c).Φ t1_0.castSucc = Φ1 m c (m ((c : Thread nD τ).loc main_v1)) from rfl,
    show (dat1 m c).Φ t1_0.succ = Φ1 m c (sinkhorn (m ((c : Thread nD τ).loc main_arg1))) from rfl, prog_eq1]
  unfold Dat.owesAt Pipeline.owesWithin Φ1
  rw [show (dat1 m c).owed t1_0.castSucc = 0 from rfl, show (dat1 m c).owed t1_0.succ = 0 from rfl]
  simp only [show (Finset.univ : Finset (Fin cfg1.W)) = ∅ from rfl, BI.bigSep_empty]
  iintro ⟨HΦ, ⟨%W, -, HW⟩, -⟩
  iapply (wp_wand_r Idealize.ShloMosaic.frame (wpE (defs₀ (F := F)) 𝒱₀ (c : Thread nD τ) none) Set.univ)
  isplitl [HΦ HW]
  · iapply (body_buffers c (Memref.whole main_arg1) (Memref.isWhole_whole _) (Memref.whole main_v1) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 (m ((c : Thread nD τ).loc main_arg1)) (m ((c : Thread nD τ).loc main_v1))
      (fun Y => pt c main_arg1 Y) (fun Y => pt c main_v1 Y) _ _ _ _ _ (mine0 c) (holds_whole c main_arg1) (holds_whole c main_v1)
      (anyM_whole c _) (anyM_whole c _) (anyM_whole c _) (anyM_whole c _) (anyM_whole c _))
    isplitl [HΦ]; · iexact HΦ
    iexists W; iexact HW
  · iintro %_ ⟨HΦ, ⟨%W', HW⟩⟩
    isplitl [HΦ]; · iexact HΦ
    isplitl [HW]
    · iexists W'; isplitr; · ipureintro; exact fun _ _ => Or.inl trivial
      iexact HW
    iempintro

end Cert.Proof.Sinkhorn

end
-- ==== Proof.Run.lean ====
/-
  The run: the two calls one after the other, from any memory with every counter at zero.
-/
module

public import proofs.«01_k».proof.Proof.Launch

@[expose] public section

set_option maxRecDepth 16384

noncomputable section

namespace Cert.Proof.Sinkhorn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg BodyObligation)

variable {F : FTy → Type} [FloatOps F]

local notation "𝕄" => MT nD τ sig Unit (Elt F) ℕ (UU nD τ) ℕ

/-- No level is assigned: the core owes nothing across a wait. -/
abbrev noLev : GSem nD τ sig → Finset Unit := fun _ => ∅
/-- The level of every cell. -/
abbrev lev0 : GSem nD τ sig → Unit → ℕ := fun _ _ => 0
/-- No call has a prefetched table. -/
abbrev adm : (p : Fin 2) → (pcfgs (F := F) p).Adm := fun p => (cfgs p).toPCfg_adm

variable (m : (ℓ : Loc nD τ sig) → Buf (Elt F) ℓ) (ρ : Dev nD → PrngReg)

/-- What core `c` holds between the calls: the arguments as launched, the results at `X` and `Y`. -/
def state (c : Dev nD) (X Y : Vec F S4096x4096 .f32) : sProp 𝕄 :=
  iprop(pt c main_arg0 (m ((c : Thread nD τ).loc main_arg0)) ∗ pt c main_arg1 (m ((c : Thread nD τ).loc main_arg1)) ∗ pt c main_v0 X ∗ pt c main_v1 Y ∗ quits c)

set_option backward.isDefEq.respectTransparency.types false in
/-- Call 0 as a segment. -/
def reg0 : RegionSeg (pcfgs (F := F)) adm (pdats m) () defs₀ 𝒱₀ noLev lev0 0 where
  win := launch0.win.to₀
  block_pos := launch0.block_pos
  stage_whole := launch0.stage_whole
  K := Fin 4
  osem := ownSem cc0_scratch5 cc0_scratch6
  ho := ownSem0_facts
  hbody c := (body_obligation0 m c).loose
  hwaits := Pipeline.hwaits_of_owed_zero _ _ _ _ noLev lev0 0 fun _ _ => rfl
  pre c := state m c (m ((c : Thread nD τ).loc main_v0)) (m ((c : Thread nD τ).loc main_v1))
  post c := state m c (sinkhorn (m ((c : Thread nD τ).loc main_arg0))) (m ((c : Thread nD τ).loc main_v1))
  X c := iprop(pt c main_arg0 (m ((c : Thread nD τ).loc main_arg0)) ∗ pt c main_v0 (m ((c : Thread nD τ).loc main_v0)) ∗ cells0 c cc0_scratch5 cc0_scratch6)
  Y c := iprop(pt c main_arg0 (m ((c : Thread nD τ).loc main_arg0)) ∗ pt c main_v0 (sinkhorn (m ((c : Thread nD τ).loc main_arg0))))
  Z c := iprop(pt c main_arg1 (m ((c : Thread nD τ).loc main_arg1)) ∗ pt c main_v1 (m ((c : Thread nD τ).loc main_v1)))
  hentry c := by
    refine (sep_mono .rfl (sep_mono (ownSems0_cells c _ _).1 .rfl)).trans ?_
    unfold state Dat.arrays Pipeline.prefHeld
    rw [show (Finset.univ : Finset (Fin 0)) = ∅ from rfl, BI.bigSep_empty]
    iintro ⟨⟨HA, HB, HO, HP, HQ⟩, HS, -⟩
    imodintro
    isplitr; · iempintro
    isplitr; · iempintro
    isplitl [HQ]
    · unfold Dat.owesAt Pipeline.owesWithin
      icases HQ with ⟨%W, HQ⟩; iexists W; isplitr; · ipureintro; exact fun _ _ => Or.inl trivial
      iexact HQ
    isplitl [HA HO HS]
    · isplitl [HA]; · iexact HA
      isplitl [HO]; · iexact HO
      iexact HS
    isplitl [HB]; · iexact HB
    iexact HP
  hin c := by
    rw [show (pdats m 0 c).Φ 0 = Φ0 m c (m ((c : Thread nD τ).loc main_v0)) from rfl]
    unfold Φ0
    iintro ⟨⟨HA, HO, HS⟩, -, HR⟩
    ihave HR := (rest_eq (F := F) c (scopedRest0_eq c)).1 $$ HR
    icases HR with ⟨H0, H1⟩
    isplitl [HA]; · iexact HA
    isplitl [HO]; · iexact HO
    isplitl [HS]; · iexact HS
    isplitl [H0]; · iexact H0
    iexact H1
  hout c := by
    rw [show (pdats m 0 c).Φ (Fin.last _) = Φ0 m c (sinkhorn (m ((c : Thread nD τ).loc main_arg0))) from rfl]
    unfold Φ0
    iintro ⟨HA, HO, HS, H0, H1⟩
    isplitl [HA HO]
    · isplitl [HA]; · iexact HA
      iexact HO
    isplitl [HS]; · iapply (ownSems0_cells c _ _).2; iexact HS
    iapply (rest_eq (F := F) c (scopedRest0_eq c)).2
    isplitl [H0]; · iexact H0
    iexact H1
  hexit c := by
    unfold state
    iintro ⟨-, HQ, ⟨HA, HO⟩, HB, HP⟩
    imodintro
    isplitl [HA]; · iexact HA
    isplitl [HB]; · iexact HB
    isplitl [HO]; · iexact HO
    isplitl [HP]; · iexact HP
    unfold Dat.owesAt Pipeline.owesWithin
    icases HQ with ⟨%W, -, HQ⟩; iexists W; iexact HQ

set_option backward.isDefEq.respectTransparency.types false in
/-- Call 1 as a segment. -/
def reg1 : RegionSeg (pcfgs (F := F)) adm (pdats m) () defs₀ 𝒱₀ noLev lev0 1 where
  win := launch1.win.to₀
  block_pos := launch1.block_pos
  stage_whole := launch1.stage_whole
  K := Fin 4
  osem := ownSem cc1_scratch5 cc1_scratch6
  ho := ownSem1_facts
  hbody c := (body_obligation1 m c).loose
  hwaits := Pipeline.hwaits_of_owed_zero _ _ _ _ noLev lev0 1 fun _ _ => rfl
  pre c := state m c (sinkhorn (m ((c : Thread nD τ).loc main_arg0))) (m ((c : Thread nD τ).loc main_v1))
  post c := state m c (sinkhorn (m ((c : Thread nD τ).loc main_arg0))) (sinkhorn (m ((c : Thread nD τ).loc main_arg1)))
  X c := iprop(pt c main_arg1 (m ((c : Thread nD τ).loc main_arg1)) ∗ pt c main_v1 (m ((c : Thread nD τ).loc main_v1)) ∗ cells0 c cc1_scratch5 cc1_scratch6)
  Y c := iprop(pt c main_arg1 (m ((c : Thread nD τ).loc main_arg1)) ∗ pt c main_v1 (sinkhorn (m ((c : Thread nD τ).loc main_arg1))))
  Z c := iprop(pt c main_arg0 (m ((c : Thread nD τ).loc main_arg0)) ∗ pt c main_v0 (sinkhorn (m ((c : Thread nD τ).loc main_arg0))))
  hentry c := by
    refine (sep_mono .rfl (sep_mono (ownSems0_cells c _ _).1 .rfl)).trans ?_
    unfold state Dat.arrays Pipeline.prefHeld
    rw [show (Finset.univ : Finset (Fin 0)) = ∅ from rfl, BI.bigSep_empty]
    iintro ⟨⟨HB, HA, HP, HO, HQ⟩, HS, -⟩
    imodintro
    isplitr; · iempintro
    isplitr; · iempintro
    isplitl [HQ]
    · unfold Dat.owesAt Pipeline.owesWithin
      icases HQ with ⟨%W, HQ⟩; iexists W; isplitr; · ipureintro; exact fun _ _ => Or.inl trivial
      iexact HQ
    isplitl [HA HO HS]
    · isplitl [HA]; · iexact HA
      isplitl [HO]; · iexact HO
      iexact HS
    isplitl [HB]; · iexact HB
    iexact HP
  hin c := by
    rw [show (pdats m 1 c).Φ 0 = Φ1 m c (m ((c : Thread nD τ).loc main_v1)) from rfl]
    unfold Φ1
    iintro ⟨⟨HA, HO, HS⟩, -, HR⟩
    ihave HR := (rest_eq (F := F) c (scopedRest1_eq c)).1 $$ HR
    icases HR with ⟨H0, H1⟩
    isplitl [HA]; · iexact HA
    isplitl [HO]; · iexact HO
    isplitl [HS]; · iexact HS
    isplitl [H1]; · iexact H1
    iexact H0
  hout c := by
    rw [show (pdats m 1 c).Φ (Fin.last _) = Φ1 m c (sinkhorn (m ((c : Thread nD τ).loc main_arg1))) from rfl]
    unfold Φ1
    iintro ⟨HA, HO, HS, H1, H0⟩
    isplitl [HA HO]
    · isplitl [HA]; · iexact HA
      iexact HO
    isplitl [HS]; · iapply (ownSems0_cells c _ _).2; iexact HS
    iapply (rest_eq (F := F) c (scopedRest1_eq c)).2
    isplitl [H0]; · iexact H0
    iexact H1
  hexit c := by
    unfold state
    iintro ⟨-, HQ, ⟨HA, HO⟩, HB, HP⟩
    imodintro
    isplitl [HB]; · iexact HB
    isplitl [HA]; · iexact HA
    isplitl [HP]; · iexact HP
    isplitl [HO]; · iexact HO
    unfold Dat.owesAt Pipeline.owesWithin
    icases HQ with ⟨%W, -, HQ⟩; iexists W; iexact HQ

/-- The core's buffers at launch. -/
theorem unscopedBufs_eq (c : Dev nD) (V : (b : Ref sig .tc) → Buf (Elt F) ((c : Thread nD τ).loc b)) :
    (unscopedBufs c V : sProp 𝕄) = iprop(pt c main_arg0 (V main_arg0) ∗ pt c main_arg1 (V main_arg1) ∗ pt c main_v0 (V main_v0) ∗ pt c main_v1 (V main_v1)) := by
  unfold unscopedBufs
  exact bigSep_eq_bigSepL_of_eq [main_arg0, main_arg1, main_v0, main_v1] (by decide) (by decide) _

/-- What a core is launched with is the state before the first call. -/
theorem launch_state (c : Dev nD) :
    iprop(unscopedBufs c (fun b => m ((c : Thread nD τ).loc b)) ∗ unscopedSems0 c ∗ owes (c : Thread nD τ) (0 : CellTallies nD τ sig Unit) ∅
        ∗ Pipeline.launchCred (fun _ => (0 : CellTallies nD τ sig Unit)) c ∗ prngReg c (ρ c) ∗ emp)
      ⊢ (state m c (m ((c : Thread nD τ).loc main_v0)) (m ((c : Thread nD τ).loc main_v1)) : sProp 𝕄) := by
  rw [unscopedBufs_eq]
  unfold state
  iintro ⟨⟨H0, H1, H2, H3⟩, -, HQ, -, -, -⟩
  isplitl [H0]; · iexact H0
  isplitl [H1]; · iexact H1
  isplitl [H2]; · iexact H2
  isplitl [H3]; · iexact H3
  iexists _; iexact HQ

/-- The ghost state at launch. -/
def u₀ : UU nD τ := (initOf (Pipeline.cells cfgs cellOf_inj) (Pipeline.launchToks cfgs cellOf_inj), 1)

/-- What a final state holds on core `c`. -/
def Ends (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v0) = sinkhorn (m ((c : Thread nD τ).loc main_arg0)) ∧ s.mem ((c : Thread nD τ).loc main_v1) = sinkhorn (m ((c : Thread nD τ).loc main_arg1))

/-- Every semaphore belongs to some launch's scope. -/
theorem no_unscoped : ∀ sm : SemLoc sig, sm.isScoped .tc = true := by decide

set_option backward.isDefEq.respectTransparency.types false in
/-- Every run of the program ends, with the arguments as launched, each result `sinkhorn` of its argument, every counter at zero. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ 𝒱₀ noLev lev0 m ρ main
    (fun _ => [.region (reg0 m), .region (reg1 m)])
    (fun c Q => by
      rewrite [main_chain c, Seg.run_eq_chain,
        show (([.region (reg0 m), .region (reg1 m)] : List (Seg (pcfgs (F := F)) adm (pdats m) () defs₀ 𝒱₀ noLev lev0))).map Seg.prog = [
          Prog.lift (.customCall (Pipeline.entry 0) ()),
          Prog.lift (.customCall (Pipeline.entry 1) ()) ] from rfl]
      exact .rfl)
    (fun c => by simp only [Seg.pipes_host, Seg.pipes_region, Seg.pipes_nil]; decide) (fun _ => 0) (fun _ _ => rfl) (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => state m c (m ((c : Thread nD τ).loc main_v0)) (m ((c : Thread nD τ).loc main_v1)))
    (Tₙ := fun c => iprop(pt c main_arg0 (m ((c : Thread nD τ).loc main_arg0)) ∗ pt c main_arg1 (m ((c : Thread nD τ).loc main_arg1))
      ∗ pt c main_v0 (sinkhorn (m ((c : Thread nD τ).loc main_arg0))) ∗ pt c main_v1 (sinkhorn (m ((c : Thread nD τ).loc main_arg1)))))
    (hch := fun c => ⟨.rfl, .rfl, ?_⟩)
    (hinit := ?_) (QY := fun c s => Ends m c s)
    (hfin := fun c s' => ?_) (hQ := fun _ h hz => ⟨h, funext fun g => hz g (.inr (no_unscoped g.2))⟩)
  · show state m c _ _ ⊢ _
    unfold state
    iintro ⟨H0, H1, H2, H3, HQ⟩
    isplitr [HQ]
    · isplitl [H0]; · iexact H0
      isplitl [H1]; · iexact H1
      isplitl [H2]; · iexact H2
      iexact H3
    iexact HQ
  · iintro ⟨H, -⟩
    imodintro
    iapply (show (bigSep Finset.univ fun c : Dev nD => iprop(unscopedBufs c (fun b => m ((c : Thread nD τ).loc b)) ∗ unscopedSems0 c ∗ owes (c : Thread nD τ) (0 : CellTallies nD τ sig Unit) ∅
        ∗ Pipeline.launchCred (fun _ => (0 : CellTallies nD τ sig Unit)) c ∗ prngReg c (ρ c) ∗ emp))
      ⊢ (bigSep Finset.univ fun c : Dev nD => state m c (m ((c : Thread nD τ).loc main_v0)) (m ((c : Thread nD τ).loc main_v1)) : sProp 𝕄) from
        bigSep_mono fun c _ => launch_state m ρ c)
    iexact H
  · unfold Ends
    iintro ⟨⟨H0, H1, H2, H3⟩, HSI⟩
    icombine HSI H0 gives %h0
    icombine HSI H1 gives %h1
    icombine HSI H2 gives %h2
    icombine HSI H3 gives %h3
    imodintro
    isplitr
    · ipureintro
      exact ⟨Buf.eq_of_forall_mem_univ h0, Buf.eq_of_forall_mem_univ h1, Buf.eq_of_forall_mem_univ h2, Buf.eq_of_forall_mem_univ h3⟩
    iexact HSI

end Cert.Proof.Sinkhorn

end
-- ==== Proof.Frames.lean ====
/-
  The frames: each of the three programs runs to the end, leaves its arguments as launched and every counter at zero.
-/
module

public import proofs.«01_k».proof.Proof.Run
public import proofs.«01_k».proof.Proof.Same
public import proofs.«01_k».proof.Proof.Gen.ReferenceIdeal
public import proofs.«01_k».proof.Proof.Gen.ReferenceIdeal.Run

@[expose] public section

noncomputable section

namespace Cert.Proof.Frames

open Idealize.ShloMosaic Idealize.SL.Sem

/-- The kernel's text read at bits: `run_main` at that instance. -/
theorem kernel : Cert.quiescent_Kernel := fun m ρ _ =>
  Same.run_eq (F := Bits) m ρ _ ((θ_run Cert.KernelIdeal.defs _ _).mono (fun _ h => ⟨fun c => ⟨(h.1 c).1, (h.1 c).2.1⟩, h.2⟩)
    (Sinkhorn.run_main (F := Bits) m ρ))

/-- The kernel's text read at the extended reals: `run_main` at that instance. -/
theorem kernelIdeal : Cert.quiescent_KernelIdeal := fun m ρ _ =>
  (θ_run Cert.KernelIdeal.defs _ _).mono (fun _ h => ⟨fun c => ⟨(h.1 c).1, (h.1 c).2.1⟩, h.2⟩) (Sinkhorn.run_main (F := Ideal) m ρ)

/-- The reference is a straight line of operations on arrays and declares no counter. -/
theorem referenceIdeal : Cert.quiescent_ReferenceIdeal := fun m ρ _ =>
  (θ_run Cert.ReferenceIdeal.defs _ _).mono (fun r h => ⟨fun c => ⟨(h c).2.2.1, (h c).2.2.2⟩, sem_eq_zero_of_no_sems (by decide) r.2⟩)
    (Cert.ReferenceIdeal.Value.run (F := Ideal) m ρ)

end Cert.Proof.Frames

end
-- ==== Proof.Scale.lean ====
/-
  Sinkhorn's iteration over the real numbers, in two forms: dividing a matrix by its row sums and then by its column sums, again
  and again, and keeping the matrix and scaling its rows and columns by reciprocals of sums. The two agree (`iterN_succ`). And the
  regroupings of a sum over 4096 terms that the kernel makes.
-/
module

public import Mathlib.Analysis.SpecialFunctions.Log.Basic
public import Mathlib.Algebra.BigOperators.Intervals

@[expose] public section

noncomputable section

namespace Cert.Proof.Scale

open Finset

/-! ## Sums regrouped -/

/-- A sum over pairs half the range apart. -/
theorem sum_halves (f : ℕ → ℝ) (n : ℕ) : ∑ l ∈ range n, (f l + f (n + l)) = ∑ l ∈ range (n + n), f l := by
  rw [sum_add_distrib, sum_range_add]

/-- A sum over blocks of `n`. -/
theorem sum_blocks (f : ℕ → ℝ) (m n : ℕ) : ∑ a ∈ range m, ∑ b ∈ range n, f (n * a + b) = ∑ i ∈ range (m * n), f i := by
  induction m with
  | zero => simp
  | succ m ih => rw [sum_range_succ, ih, Nat.succ_mul, sum_range_add, Nat.mul_comm n m]

/-- Halving three times. -/
theorem sum_eighths (f : ℕ → ℝ) (n : ℕ) :
    ∑ l ∈ range n, (((f l + f (4 * n + l)) + (f (2 * n + l) + f (4 * n + (2 * n + l)))) + ((f (n + l) + f (4 * n + (n + l))) + (f (2 * n + (n + l)) + f (4 * n + (2 * n + (n + l))))))
      = ∑ l ∈ range (8 * n), f l := by
  have e1 := sum_halves (fun l => (f l + f (4 * n + l)) + (f (2 * n + l) + f (4 * n + (2 * n + l)))) n
  have e2 := sum_halves (fun l => f l + f (4 * n + l)) (2 * n)
  have e3 := sum_halves f (4 * n)
  rw [show n + n = 2 * n by omega] at e1
  rw [show 2 * n + 2 * n = 4 * n by omega] at e2
  rw [show 4 * n + 4 * n = 8 * n by omega] at e3
  exact e1.trans (e2.trans e3)

/-- Sixty-four rows at a time, eight of them apart. -/
theorem sum_columns (h : ℕ → ℝ) (m : ℕ) :
    ∑ p ∈ range 8, ∑ t ∈ range m,
        ((((h (16 * (4 * t + 0) + (0 + p)) + h (16 * (4 * t + 1) + (0 + p))) + (h (16 * (4 * t + 2) + (0 + p)) + h (16 * (4 * t + 3) + (0 + p)))))
          + (((h (16 * (4 * t + 0) + (8 + p)) + h (16 * (4 * t + 1) + (8 + p))) + (h (16 * (4 * t + 2) + (8 + p)) + h (16 * (4 * t + 3) + (8 + p))))))
      = ∑ i ∈ range (m * 64), h i := by
  rw [sum_comm, ← sum_blocks h m 64]
  refine sum_congr rfl fun t _ => ?_
  rw [← sum_blocks (fun b => h (64 * t + b)) 8 8, sum_comm]
  refine sum_congr rfl fun p _ => ?_
  simp only [sum_range_succ, sum_range_zero]
  rw [show 16 * (4 * t + 0) + (0 + p) = 64 * t + (8 * 0 + p) by omega, show 16 * (4 * t + 1) + (0 + p) = 64 * t + (8 * 2 + p) by omega,
    show 16 * (4 * t + 2) + (0 + p) = 64 * t + (8 * 4 + p) by omega, show 16 * (4 * t + 3) + (0 + p) = 64 * t + (8 * 6 + p) by omega,
    show 16 * (4 * t + 0) + (8 + p) = 64 * t + (8 * 1 + p) by omega, show 16 * (4 * t + 1) + (8 + p) = 64 * t + (8 * 3 + p) by omega,
    show 16 * (4 * t + 2) + (8 + p) = 64 * t + (8 * 5 + p) by omega, show 16 * (4 * t + 3) + (8 + p) = 64 * t + (8 * 7 + p) by omega]
  ring

/-! ## The two forms of the iteration -/

variable (n : ℕ)

/-- A matrix with each row divided by its sum, -/
def rowN (e : ℕ → ℕ → ℝ) : ℕ → ℕ → ℝ := fun i j => e i j / ∑ l ∈ range n, e i l
/-- with each column, -/
def colN (e : ℕ → ℕ → ℝ) : ℕ → ℕ → ℝ := fun i j => e i j / ∑ l ∈ range n, e l j
/-- and with both, `t` times. A row or column of zeros stays so: a quotient by zero is zero here. -/
def iterN (k : ℕ → ℕ → ℝ) : ℕ → ℕ → ℕ → ℝ
  | 0 => k
  | t + 1 => colN n (rowN n (iterN k t))

/-- The row scalings that the column scalings `v` call for, -/
def uOf (k : ℕ → ℕ → ℝ) (v : ℕ → ℝ) : ℕ → ℝ := fun i => 1 / ∑ l ∈ range n, k i l * v l
/-- the column scalings that the row scalings `u` call for, -/
def vOf (k : ℕ → ℕ → ℝ) (u : ℕ → ℝ) : ℕ → ℝ := fun j => 1 / ∑ l ∈ range n, k l j * u l
/-- and the column scalings after `t` iterations. -/
def vSeq (k : ℕ → ℕ → ℝ) : ℕ → ℕ → ℝ
  | 0 => fun _ => 1
  | t + 1 => vOf n k (uOf n k (vSeq k t))

/-- Row scalings that are not negative, and zero only for a row of zeros; -/
def RowsOk (k : ℕ → ℕ → ℝ) (p : ℕ → ℝ) : Prop := ∀ i, i < n → 0 ≤ p i ∧ (p i = 0 → ∀ j, j < n → k i j = 0)
/-- column scalings likewise. -/
def ColsOk (k : ℕ → ℕ → ℝ) (q : ℕ → ℝ) : Prop := ∀ j, j < n → 0 ≤ q j ∧ (q j = 0 → ∀ i, i < n → k i j = 0)

variable {n} {k : ℕ → ℕ → ℝ}

/-- Scalings of the rows that come from good scalings of the columns are good, -/
theorem uOf_ok (hk : ∀ i j, 0 ≤ k i j) {v : ℕ → ℝ} (hv : ColsOk n k v) : RowsOk n k (uOf n k v) := fun i hi => by
  have hpos : ∀ l ∈ range n, 0 ≤ k i l * v l := fun l hl => mul_nonneg (hk i l) (hv l (mem_range.mp hl)).1
  refine ⟨one_div_nonneg.mpr (sum_nonneg hpos), fun h j hj => ?_⟩
  have h0 : ∑ l ∈ range n, k i l * v l = 0 := by simpa [uOf] using h
  rcases mul_eq_zero.mp ((sum_eq_zero_iff_of_nonneg hpos).mp h0 j (mem_range.mpr hj)) with e | e
  · exact e
  · exact (hv j hj).2 e i hi
/-- and the other way round. -/
theorem vOf_ok (hk : ∀ i j, 0 ≤ k i j) {u : ℕ → ℝ} (hu : RowsOk n k u) : ColsOk n k (vOf n k u) := fun j hj => by
  have hpos : ∀ l ∈ range n, 0 ≤ k l j * u l := fun l hl => mul_nonneg (hk l j) (hu l (mem_range.mp hl)).1
  refine ⟨one_div_nonneg.mpr (sum_nonneg hpos), fun h i hi => ?_⟩
  have h0 : ∑ l ∈ range n, k l j * u l = 0 := by simpa [vOf] using h
  rcases mul_eq_zero.mp ((sum_eq_zero_iff_of_nonneg hpos).mp h0 i (mem_range.mpr hi)) with e | e
  · exact e
  · exact (hu i hi).2 e j hj
/-- The column scalings are good after every iteration. -/
theorem vSeq_ok (hk : ∀ i j, 0 ≤ k i j) : ∀ t, ColsOk n k (vSeq n k t)
  | 0 => fun _ _ => ⟨zero_le_one, fun h => absurd h one_ne_zero⟩
  | t + 1 => vOf_ok hk (uOf_ok hk (vSeq_ok hk t))

/-- Dividing by the row sums a matrix that is `k` scaled replaces the row scalings. -/
theorem rowN_scaled {e : ℕ → ℕ → ℝ} {p q : ℕ → ℝ} (hp : RowsOk n k p) (he : ∀ i j, i < n → j < n → e i j = k i j * p i * q j) (i j : ℕ) (hi : i < n) (hj : j < n) :
    rowN n e i j = k i j * uOf n k q i * q j := by
  have hsum : ∑ l ∈ range n, e i l = p i * ∑ l ∈ range n, k i l * q l := by
    rw [mul_sum]; exact sum_congr rfl fun l hl => by rw [he i l hi (mem_range.mp hl)]; ring
  unfold rowN uOf
  rw [hsum, he i j hi hj]
  by_cases h0 : p i = 0
  · rw [(hp i hi).2 h0 j hj]; simp
  · by_cases hS : ∑ l ∈ range n, k i l * q l = 0
    · rw [hS]; simp
    · field_simp
/-- Dividing by the column sums replaces the column scalings. -/
theorem colN_scaled {e : ℕ → ℕ → ℝ} {p q : ℕ → ℝ} (hq : ColsOk n k q) (he : ∀ i j, i < n → j < n → e i j = k i j * p i * q j) (i j : ℕ) (hi : i < n) (hj : j < n) :
    colN n e i j = k i j * p i * vOf n k p j := by
  have hsum : ∑ l ∈ range n, e l j = q j * ∑ l ∈ range n, k l j * p l := by
    rw [mul_sum]; exact sum_congr rfl fun l hl => by rw [he l j (mem_range.mp hl) hj]; ring
  unfold colN vOf
  rw [hsum, he i j hi hj]
  by_cases h0 : q j = 0
  · rw [(hq j hj).2 h0 i hi]; simp
  · by_cases hS : ∑ l ∈ range n, k l j * p l = 0
    · rw [hS]; simp
    · field_simp

/-- After some iterations the matrix is the first one scaled by rows and by columns, the columns as after as many iterations of
    scaling. -/
theorem iterN_scaled (hk : ∀ i j, 0 ≤ k i j) : ∀ t : ℕ, ∃ p : ℕ → ℝ, RowsOk n k p ∧ ∀ i j, i < n → j < n → iterN n k t i j = k i j * p i * vSeq n k t j
  | 0 => ⟨fun _ => 1, fun _ _ => ⟨zero_le_one, fun h => absurd h one_ne_zero⟩, fun i j _ _ => by simp [iterN, vSeq]⟩
  | t + 1 => by
    obtain ⟨p, hp, h⟩ := iterN_scaled hk t
    exact ⟨_, uOf_ok hk (vSeq_ok hk t), colN_scaled (vSeq_ok hk t) (rowN_scaled hp h)⟩

/-- After `t + 1` iterations, with the row scalings of the last of them. -/
theorem iterN_succ (hk : ∀ i j, 0 ≤ k i j) (t i j : ℕ) (hi : i < n) (hj : j < n) :
    iterN n k (t + 1) i j = k i j * uOf n k (vSeq n k t) i * vSeq n k (t + 1) j := by
  obtain ⟨p, hp, h⟩ := iterN_scaled hk t
  exact colN_scaled (vSeq_ok hk t) (rowN_scaled hp h) i j hi hj

end Cert.Proof.Scale

end
-- ==== Proof.Reads.lean ====
/-
  A matrix over the extended reals that holds real numbers, and what the tensor operations make of it: each lemma gives the real
  entries of an operation's result from those of its operands. A reciprocal of zero is plus infinity: `Weak` lets a matrix hold that in
  place of a zero, and a product with such an entry is zero wherever the other factor is.
-/
module

public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value
public import Idealize.ShloMosaic.PureOps.Ideal.Laws
public import proofs.«01_k».proof.Proof.Scale

@[expose] public section

set_option maxRecDepth 16384

noncomputable section

namespace Cert.Proof.Scale

open Idealize.ShloMosaic Idealize.ShloMosaic.ValueIdx
open Finset

/-- Each element of the matrix `X` is as `P` says of its row and column. -/
def Holds {m n : ℕ} (X : (⟨2, ![m, n]⟩ : Shape).Idx → EReal) (P : ℕ → ℕ → EReal → Prop) : Prop := ∀ (i : Fin m) (j : Fin n), P i.val j.val (X (ix2 i j))
/-- The matrix `X` holds the real numbers `f i j`. -/
def Reads {m n : ℕ} (X : (⟨2, ![m, n]⟩ : Shape).Idx → EReal) (f : ℕ → ℕ → ℝ) : Prop := Holds X fun i j x => x = ((f i j : ℝ) : EReal)
/-- It holds those numbers, except that where one is zero it may hold plus infinity: reciprocals, where that of zero counts as zero. -/
def Weak {m n : ℕ} (X : (⟨2, ![m, n]⟩ : Shape).Idx → EReal) (f : ℕ → ℕ → ℝ) : Prop := Holds X fun i j x => x = ((f i j : ℝ) : EReal) ∨ (f i j = 0 ∧ x = ⊤)
/-- The vector `x` holds the real numbers `f i`. -/
def Reads1 {m : ℕ} (x : (⟨1, ![m]⟩ : Shape).Idx → EReal) (f : ℕ → ℝ) : Prop := ∀ i : Fin m, x (ix1 i) = ((f i.val : ℝ) : EReal)

variable {m n m' n' : ℕ} {φ ψ : FTy}

/-! ## Operations that move elements -/

section Moves

variable {X : (⟨2, ![m, n]⟩ : Shape).Idx → EReal} {P : ℕ → ℕ → EReal → Prop} {f : ℕ → ℕ → ℝ}

/-- At an index of whatever form. -/
theorem Holds.at (h : Holds X P) (y : (⟨2, ![m, n]⟩ : Shape).Idx) {i j : ℕ} (hi : (y 0).val = i) (hj : (y 1).val = j) : P i j (X y) := by
  subst hi hj; rw [eq_ix2 y]; exact h _ _
/-- A shape cast to the same shape, -/
theorem Holds.self (hX : Holds X P) (h : (⟨2, ![m, n]⟩ : Shape).ShapeCasts ⟨2, ![m, n]⟩) : Holds (shapeCast ⟨2, ![m, n]⟩ X h) P := fun i j => by
  rw [shapeCast_apply X h _ _ rfl]; exact hX i j
/-- a slice, -/
theorem Holds.slice (hX : Holds X P) (a b : ℕ) (h : (⟨2, ![m, n]⟩ : Shape).Slices ![a, b] ⟨2, ![m', n']⟩) :
    Holds (extractStridedSlice ⟨2, ![m', n']⟩ ![a, b] X h) fun i j => P (a + i) (b + j) := fun i j => hX.at _ rfl rfl
/-- a window, -/
theorem Holds.window (hX : Holds X P) (a b : ℕ)
    (h : ∀ x, (![a, b] : Fin 2 → ℕ) x + (⟨2, ![m', n']⟩ : Shape).size x ≤ (⟨2, ![m, n]⟩ : Shape).size x) :
    Holds (m := m') (n := n') (fun y => X ((Rect.unit (s := ⟨2, ![m, n]⟩) ![a, b] (⟨2, ![m', n']⟩ : Shape).size h).emb y)) fun i j => P (a + i) (b + j) :=
  fun i j => hX.at _ (by show a + 1 * i.val = _; rw [one_mul]) (by show b + 1 * j.val = _; rw [one_mul])
/-- a column repeated, -/
theorem Holds.columns {X : (⟨2, ![m, 1]⟩ : Shape).Idx → EReal} (hX : Holds X P) (hm : m ≠ 1) (h : (⟨2, ![m, 1]⟩ : Shape).Broadcasts ⟨2, ![m, n]⟩) :
    Holds (broadcastTo ⟨2, ![m, n]⟩ X h) fun i _ => P i 0 := fun i j => by
  rw [broadcastTo_apply X h (ix2 i j) (ix2 i (0 : Fin 1)) fun ax => by
    match ax with
    | ⟨0, _⟩ => exact (if_neg hm).symm
    | ⟨1, _⟩ => exact (if_pos rfl).symm]
  exact hX i 0
/-- and a row repeated. -/
theorem Holds.rows {X : (⟨2, ![1, n]⟩ : Shape).Idx → EReal} (hX : Holds X P) (h : (⟨2, ![1, n]⟩ : Shape).Broadcasts ⟨2, ![m, n]⟩) :
    Holds (broadcastTo ⟨2, ![m, n]⟩ X h) fun _ j => P 0 j := fun i j => by
  rw [broadcastTo_1b_ab_apply X h i j]; exact hX 0 j

/-- Two matrices that hold the same numbers are equal. -/
theorem Reads.ext {Y : (⟨2, ![m, n]⟩ : Shape).Idx → EReal} (hX : Reads X f) (hY : Reads Y f) : X = Y := by
  funext y; rw [eq_ix2 y]; exact (hX _ _).trans (hY _ _).symm
/-- The numbers held may be written otherwise. -/
theorem Reads.congr {g : ℕ → ℕ → ℝ} (h : Reads X f) (e : ∀ i j, i < m → j < n → f i j = g i j) : Reads X g :=
  fun i j => (h i j).trans (by rw [e _ _ i.isLt j.isLt])
/-- Numbers held are held with the exception. -/
theorem Reads.weak (h : Reads X f) : Weak X f := fun i j => Or.inl (h i j)

/-! The moves for the two readings. -/

/-- At an index of whatever form, the number there. -/
theorem Reads.at (h : Reads X f) (y : (⟨2, ![m, n]⟩ : Shape).Idx) {i j : ℕ} (hi : (y 0).val = i) (hj : (y 1).val = j) : X y = ((f i j : ℝ) : EReal) :=
  Holds.at h y hi hj
/-- A cast to the same shape holds the same numbers, -/
theorem Reads.self (hX : Reads X f) (h : (⟨2, ![m, n]⟩ : Shape).ShapeCasts ⟨2, ![m, n]⟩) : Reads (shapeCast ⟨2, ![m, n]⟩ X h) f := Holds.self hX h
/-- with or without the exception; -/
theorem Weak.self (hX : Weak X f) (h : (⟨2, ![m, n]⟩ : Shape).ShapeCasts ⟨2, ![m, n]⟩) : Weak (shapeCast ⟨2, ![m, n]⟩ X h) f := Holds.self hX h
/-- a slice those from its offsets on, -/
theorem Reads.slice (hX : Reads X f) (a b : ℕ) (h : (⟨2, ![m, n]⟩ : Shape).Slices ![a, b] ⟨2, ![m', n']⟩) :
    Reads (extractStridedSlice ⟨2, ![m', n']⟩ ![a, b] X h) fun i j => f (a + i) (b + j) := Holds.slice hX a b h
/-- with or without the exception; -/
theorem Weak.slice (hX : Weak X f) (a b : ℕ) (h : (⟨2, ![m, n]⟩ : Shape).Slices ![a, b] ⟨2, ![m', n']⟩) :
    Weak (extractStridedSlice ⟨2, ![m', n']⟩ ![a, b] X h) fun i j => f (a + i) (b + j) := Holds.slice hX a b h
/-- so does a window, -/
theorem Reads.window (hX : Reads X f) (a b : ℕ)
    (h : ∀ x, (![a, b] : Fin 2 → ℕ) x + (⟨2, ![m', n']⟩ : Shape).size x ≤ (⟨2, ![m, n]⟩ : Shape).size x) :
    Reads (m := m') (n := n') (fun y => X ((Rect.unit (s := ⟨2, ![m, n]⟩) ![a, b] (⟨2, ![m', n']⟩ : Shape).size h).emb y)) fun i j => f (a + i) (b + j) :=
  Holds.window hX a b h
/-- with or without the exception; -/
theorem Weak.window (hX : Weak X f) (a b : ℕ)
    (h : ∀ x, (![a, b] : Fin 2 → ℕ) x + (⟨2, ![m', n']⟩ : Shape).size x ≤ (⟨2, ![m, n]⟩ : Shape).size x) :
    Weak (m := m') (n := n') (fun y => X ((Rect.unit (s := ⟨2, ![m, n]⟩) ![a, b] (⟨2, ![m', n']⟩ : Shape).size h).emb y)) fun i j => f (a + i) (b + j) :=
  Holds.window hX a b h
/-- a repeated column the column's, -/
theorem Weak.columns {X : (⟨2, ![m, 1]⟩ : Shape).Idx → EReal} (hX : Weak X f) (hm : m ≠ 1) (h : (⟨2, ![m, 1]⟩ : Shape).Broadcasts ⟨2, ![m, n]⟩) :
    Weak (broadcastTo ⟨2, ![m, n]⟩ X h) fun i _ => f i 0 := Holds.columns hX hm h
/-- and a repeated row the row's. -/
theorem Weak.rows {X : (⟨2, ![1, n]⟩ : Shape).Idx → EReal} (hX : Weak X f) (h : (⟨2, ![1, n]⟩ : Shape).Broadcasts ⟨2, ![m, n]⟩) :
    Weak (broadcastTo ⟨2, ![m, n]⟩ X h) fun _ j => f 0 j := Holds.rows hX h

end Moves

/-! ## Operations that compute -/

/-- A product by a number held with the exception, where the other factor is zero too, -/
theorem Reads.mulWeak {X Y : FVec Ideal ⟨2, ![m, n]⟩ φ} {f g : ℕ → ℕ → ℝ} (hX : Reads X f) (hY : Weak Y g) (h : ∀ i j, i < m → j < n → g i j = 0 → f i j = 0) :
    Reads (mulf X Y) fun i j => f i j * g i j := fun i j => by
  rcases hY i j with e | ⟨e0, e⟩
  · rw [mulf_apply, hX, e, ← EReal.coe_mul]
  · rw [mulf_apply, hX]; beta_reduce; rw [h _ _ i.isLt j.isLt e0, EReal.coe_zero, zero_mul, zero_mul, EReal.coe_zero]
/-- a reciprocal, -/
theorem Reads.inv {X Y : FVec Ideal ⟨2, ![m, n]⟩ φ} {g : ℕ → ℕ → ℝ} (hX : Reads X fun _ _ => 1) (hY : Reads Y g) :
    Weak (divf X Y) fun i j => 1 / g i j := fun i j => by
  by_cases h : g i.val j.val = 0
  · refine Or.inr ⟨by beta_reduce; rw [h, div_zero], ?_⟩
    rw [divf_apply, hX, hY, h]
    simp [Ideal.div]
  · refine Or.inl ?_
    rw [divf_apply, hX, hY]
    unfold Ideal.div
    rw [if_neg (by exact_mod_cast h), ← EReal.coe_inv, ← EReal.coe_mul, ← div_eq_mul_inv]
/-- a sum, -/
theorem Reads.addf {X Y : FVec Ideal ⟨2, ![m, n]⟩ φ} {f g : ℕ → ℕ → ℝ} (hX : Reads X f) (hY : Reads Y g) :
    Reads (addf X Y) fun i j => f i j + g i j := fun i j => by rw [addf_apply, hX, hY, ← EReal.coe_add]
/-- a widening of the format, -/
theorem Reads.extf {X : FVec Ideal ⟨2, ![m, n]⟩ φ} {f : ℕ → ℕ → ℝ} (hX : Reads X f) (h : φ.bits < ψ.bits) : Reads (extf ψ X h) f := hX
/-- a narrowing, -/
theorem Reads.truncf {X : FVec Ideal ⟨2, ![m, n]⟩ φ} {f : ℕ → ℕ → ℝ} (hX : Reads X f) (h : ψ.bits < φ.bits) : Reads (truncf ψ X h) f := hX
/-- with or without the exception, -/
theorem Weak.truncf {X : FVec Ideal ⟨2, ![m, n]⟩ φ} {f : ℕ → ℕ → ℝ} (hX : Weak X f) (h : ψ.bits < φ.bits) : Weak (truncf ψ X h) f := hX
/-- one number everywhere, -/
theorem Reads.broadcast {c : EReal} {r : ℝ} (h : c = (r : EReal)) : Reads (m := m) (n := n) (broadcast ⟨2, ![m, n]⟩ c) fun _ _ => r := fun _ _ => h
/-- a vector as a column, -/
theorem Reads1.column {x : (⟨1, ![m]⟩ : Shape).Idx → EReal} {f : ℕ → ℝ} (hx : Reads1 x f) (h : (⟨1, ![m]⟩ : Shape).ShapeCasts ⟨2, ![m, 1]⟩) :
    Reads (shapeCast ⟨2, ![m, 1]⟩ x h) fun i _ => f i := fun i j => (shapeCast_a_a1_apply x h i j).trans (hx i)
/-- a vector as a row, -/
theorem Reads1.row {x : (⟨1, ![m]⟩ : Shape).Idx → EReal} {f : ℕ → ℝ} (hx : Reads1 x f) (h : (⟨1, ![m]⟩ : Shape).ShapeCasts ⟨2, ![1, m]⟩) :
    Reads (shapeCast ⟨2, ![1, m]⟩ x h) fun _ j => f j := fun i j => (shapeCast_a_1a_apply x h i j).trans (hx j)

/-- A sum of numbers held as extended reals. -/
theorem coe_sum_range (k : ℕ) (f : ℕ → ℝ) : ∑ i : Fin k, ((f i.val : ℝ) : EReal) = ((∑ i ∈ range k, f i : ℝ) : EReal) := by
  rw [Fin.sum_univ_eq_sum_range (fun i => ((f i : ℝ) : EReal))]
  induction k with
  | zero => simp
  | succ k ih => rw [sum_range_succ, sum_range_succ, ih, EReal.coe_add]

/-- the sums of the rows, -/
theorem Reads.sum_rows {X : FVec Ideal ⟨2, ![m, n]⟩ φ} {f : ℕ → ℕ → ℝ} (hX : Reads X f) (acc : BitVec φ.bits)
    (h : (⟨2, ![m, n]⟩ : Shape).Reduces [1] ⟨1, ![m]⟩) (hφ : FKind.Formats φ) (hacc : acc = FKind.add.neutral φ hφ) :
    Reads1 (multiReduction .add [1] ⟨1, ![m]⟩ X acc h hφ hacc) fun i => ∑ l ∈ range n, f i l := fun i => by
  rw [Ideal.multiReduction_add_single, ← coe_sum_range]
  exact Finset.sum_congr rfl fun k _ => hX.at _ rfl rfl
/-- the sums of the columns, -/
theorem Reads.sum_cols {X : FVec Ideal ⟨2, ![m, n]⟩ φ} {f : ℕ → ℕ → ℝ} (hX : Reads X f) (acc : BitVec φ.bits)
    (h : (⟨2, ![m, n]⟩ : Shape).Reduces [0] ⟨1, ![n]⟩) (hφ : FKind.Formats φ) (hacc : acc = FKind.add.neutral φ hφ) :
    Reads1 (multiReduction .add [0] ⟨1, ![n]⟩ X acc h hφ hacc) fun j => ∑ l ∈ range m, f l j := fun j => by
  rw [Ideal.multiReduction_add_single, ← coe_sum_range]
  exact Finset.sum_congr rfl fun k _ => hX.at _ rfl rfl

/-- and two halves side by side. -/
theorem Reads.beside {X Y : (⟨2, ![m, n]⟩ : Shape).Idx → EReal} {f : ℕ → ℕ → ℝ} (hX : Reads X f) (hY : Reads Y fun i j => f i (n + j))
    (h : Shape.Concatenates [⟨2, ![m, n]⟩, ⟨2, ![m, n]⟩] ⟨2, ![m, n']⟩ 1) (hn : n' = n + n) :
    Reads (concatenate ⟨2, ![m, n']⟩ 1 [⟨⟨2, ![m, n]⟩, X⟩, ⟨⟨2, ![m, n]⟩, Y⟩] h) f := fun i j => by
  by_cases hj : j.val < n
  · refine (concatenate_pair_apply_left (1 : Fin 2) X Y h (ix2 i j) rfl (ix2 i (⟨j.val, hj⟩ : Fin n)) fun b => ?_).trans (hX _ _)
    match b with
    | ⟨0, _⟩ => rfl
    | ⟨1, _⟩ => rfl
  · have hj' := j.isLt
    refine (concatenate_pair_apply_right (1 : Fin 2) X Y h (ix2 i j) rfl rfl (ix2 i (⟨j.val - n, by omega⟩ : Fin n)) (fun b hb => ?_) ?_).trans ?_
    · match b with
      | ⟨0, _⟩ => rfl
      | ⟨1, _⟩ => exact absurd rfl hb
    · show j.val - n + n = j.val; omega
    · rw [hY]; show ((f i.val (n + (j.val - n)) : ℝ) : EReal) = _; rw [show n + (j.val - n) = j.val by omega]

end Cert.Proof.Scale

end
-- ==== Proof.Value.lean ====
/-
  What the kernel computes, over the extended reals: its input's exponential, where that holds real numbers, scaled by rows and by
  columns as Sinkhorn's iteration scales it. A row or column of zeros has plus infinity for its scaling, and every product with it
  is zero.
-/
module

public import proofs.«01_k».proof.Proof.Launch
public import proofs.«01_k».proof.Proof.Reads

@[expose] public section

set_option maxRecDepth 16384

noncomputable section

namespace Cert.Proof.Sinkhorn

open Cert.KernelIdeal Cert.KernelIdeal.Gen
open Idealize.ShloMosaic Idealize.ShloMosaic.ValueIdx
open Cert.Proof.Scale
open Finset

variable {K : Vec Ideal S4096x4096 .bf16} {U : Vec Ideal S4096x1 .bf16} {V : Vec Ideal S16x4096 .bf16} {k : ℕ → ℕ → ℝ} {u v : ℕ → ℝ}

/-! ## The parts of an array -/

/-- The left half of sixteen rows, -/
theorem reads_kL (hK : Reads K k) (i : Fin 256) : Reads (kL K i) fun a l => k (16 * i.val + a) (0 + l) := hK.window _ _ _
/-- the right half, -/
theorem reads_kR (hK : Reads K k) (i : Fin 256) : Reads (kR K i) fun a l => k (16 * i.val + a) (2048 + l) := hK.window _ _ _
/-- and both, hold those entries of the kernel matrix; -/
theorem reads_kChunk (hK : Reads K k) (i : Fin 256) : Reads (kChunk K i) fun a l => k (16 * i.val + a) (0 + l) := hK.window _ _ _
/-- a piece of the row scalings holds those. -/
theorem weak_uC (hU : Weak U fun i _ => u i) (i : Fin 256) : Weak (uC U i) fun a _ => u (16 * i.val + a) := hU.window _ _ _

/-! ## The row scalings -/

/-- A half row's products, folded in half three times. -/
def fold8 (t : ℕ → ℝ) (l : ℕ) : ℝ :=
  ((t (0 + (0 + (0 + l))) + t (1024 + (0 + (0 + l)))) + (t (0 + (512 + (0 + l))) + t (1024 + (512 + (0 + l)))))
    + ((t (0 + (0 + (256 + l))) + t (1024 + (0 + (256 + l)))) + (t (0 + (512 + (256 + l))) + t (1024 + (512 + (256 + l)))))
/-- Their sum is the half row's. -/
theorem sum_fold8 (t : ℕ → ℝ) : ∑ l ∈ range 256, fold8 t l = ∑ l ∈ range 2048, t l := by
  refine Eq.trans (sum_congr rfl fun l _ => ?_) (sum_eighths t 256)
  simp only [fold8, Nat.zero_add]

/-- One step of the row update: the reciprocals of sixteen row sums. -/
theorem weak_pay24 {kl kr : Vec Ideal S16x2048 .bf16} {f : ℕ → ℕ → ℝ} (hV : Weak V fun _ j => v j)
    (hl : Reads kl fun a l => f a (0 + l)) (hr : Reads kr fun a l => f a (2048 + l))
    (h : ∀ a l, a < 16 → l < 4096 → v l = 0 → f a l = 0) :
    Weak (k0_pay24 V kl kr) fun a _ => 1 / ∑ l ∈ range 4096, f a l * v l := by
  have e : ∀ a, (∑ l ∈ range 256, (fold8 (fun l => f a (0 + l) * v (0 + l)) l + fold8 (fun l => f a (2048 + l) * v (2048 + l)) l))
      = ∑ l ∈ range 4096, f a l * v l := fun a => by
    rw [sum_add_distrib, sum_fold8, sum_fold8, show 4096 = 2048 + 2048 from rfl, sum_range_add]
    simp only [Nat.zero_add]
  have pl := Reads.mulWeak (φ := .bf16) hl (hV.slice 0 0 slices_S16x4096_o0_0_S16x2048) fun a l ha hl' e => h a (0 + l) ha (by omega) e
  have pl1 := (pl.slice 0 0 slices_S16x2048_o0_0_S16x1024).addf (φ := .bf16) (pl.slice 0 1024 slices_S16x2048_o0_1024_S16x1024)
  have pl2 := (pl1.slice 0 0 slices_S16x1024_o0_0_S16x512).addf (φ := .bf16) (pl1.slice 0 512 slices_S16x1024_o0_512_S16x512)
  have pl3 := (pl2.slice 0 0 slices_S16x512_o0_0_S16x256).addf (φ := .bf16) (pl2.slice 0 256 slices_S16x512_o0_256_S16x256)
  have pr := Reads.mulWeak (φ := .bf16) hr (hV.slice 0 2048 slices_S16x4096_o0_2048_S16x2048) fun a l ha hl' e => h a (2048 + l) ha (by omega) e
  have pr1 := (pr.slice 0 0 slices_S16x2048_o0_0_S16x1024).addf (φ := .bf16) (pr.slice 0 1024 slices_S16x2048_o0_1024_S16x1024)
  have pr2 := (pr1.slice 0 0 slices_S16x1024_o0_0_S16x512).addf (φ := .bf16) (pr1.slice 0 512 slices_S16x1024_o0_512_S16x512)
  have pr3 := (pr2.slice 0 0 slices_S16x512_o0_0_S16x256).addf (φ := .bf16) (pr2.slice 0 256 slices_S16x512_o0_256_S16x256)
  have ps := (((pl3.extf bitsLt_bf16_f32).addf (pr3.extf bitsLt_bf16_f32)).congr (g := fun a l =>
      fold8 (fun l => f a (0 + l) * v (0 + l)) l + fold8 (fun l => f a (2048 + l) * v (2048 + l)) l)
    fun a l _ _ => by simp only [fold8, Nat.zero_add]).sum_rows 0x00000000#32 reduces_S16x256_S16 (.inl rfl) rfl
  have pd := (Reads.broadcast (m := 16) (n := 1) (c := Ideal.ofBits .f32 0x3F800000#32) (r := 1) (by simp)).inv (φ := .f32)
    ((ps.column shapeCasts_S16_S16x1).congr (g := fun a _ => ∑ l ∈ range 4096, f a l * v l) fun a _ _ _ => e a)
  exact (pd.truncf bitsLt_bf16_f32).self shapeCasts_S16x1_S16x1

/-- The row update, every row. -/
theorem weak_uFull (hK : Reads K k) (hV : Weak V fun _ j => v j) (hv : ColsOk 4096 k v) :
    Weak (uFull K V) fun i _ => uOf 4096 k v i := fun i j => by
  have h := weak_pay24 (f := fun a l => k (16 * (pieceOf i).val + a) l) hV (reads_kL hK (pieceOf i)) (reads_kR hK (pieceOf i))
    (fun a l ha hl e => (hv l hl).2 e _ (by have := (pieceOf i).isLt; omega)) (⟨i.val % 16, Nat.mod_lt _ (by decide)⟩ : Fin 16) j
  have e : 16 * (pieceOf i).val + i.val % 16 = i.val := Nat.div_add_mod _ _
  beta_reduce at h ⊢
  rw [e] at h
  exact h

/-! ## The column scalings -/

/-- Four rows' products, added as the column update adds them. -/
def quad (t : ℕ → ℝ) (j a : ℕ) : ℝ :=
  (t (16 * (4 * j + 0) + a) + t (16 * (4 * j + 1) + a)) + (t (16 * (4 * j + 2) + a) + t (16 * (4 * j + 3) + a))

/-- Sixty-four rows' products by their scalings. -/
theorem reads_pay1 {q : Fin 4 → Vec Ideal S16x2048 .bf16} {w : Fin 4 → Vec Ideal S16x1 .bf16} {f : ℕ → ℕ → ℝ} (j : Fin 64)
    (hq : ∀ r, Reads (q r) fun a l => f (16 * (r4 j r).val + a) l) (hw : ∀ r, Weak (w r) fun a _ => u (16 * (r4 j r).val + a))
    (h : ∀ i l, i < 4096 → l < 2048 → u i = 0 → f i l = 0) :
    Reads (k0_pay1 (q 0) (w 0) (q 1) (w 1) (q 2) (w 2) (q 3) (w 3)) fun a l => quad (fun i => f i l * u i) j.val a := by
  have p := fun r => Reads.mulWeak (φ := .bf16) (hq r) ((hw r).columns (by decide) broadcasts_S16x1_S16x2048)
    fun a l ha hl e => h _ l (by have := (r4 j r).isLt; omega) hl e
  exact (((p 0).addf (p 1)).addf ((p 2).addf (p 3))).extf bitsLt_bf16_f32

/-- The same added to the partial sums. -/
theorem reads_pay26 {acc : FVec Ideal S8x2048 .f32} {q : Fin 4 → Vec Ideal S16x2048 .bf16} {w : Fin 4 → Vec Ideal S16x1 .bf16} {f g : ℕ → ℕ → ℝ} (j : Fin 64)
    (ha : Reads acc g) (hq : ∀ r, Reads (q r) fun a l => f (16 * (r4 j r).val + a) l) (hw : ∀ r, Weak (w r) fun a _ => u (16 * (r4 j r).val + a))
    (h : ∀ i l, i < 4096 → l < 2048 → u i = 0 → f i l = 0) :
    Reads (k0_pay26 acc (k0_pay1 (q 0) (w 0) (q 1) (w 1) (q 2) (w 2) (q 3) (w 3)) (k0_pay2 (q 0) (w 0) (q 1) (w 1) (q 2) (w 2) (q 3) (w 3)))
      fun p l => g p l + (quad (fun i => f i l * u i) j.val (0 + p) + quad (fun i => f i l * u i) j.val (8 + p)) := by
  have p := reads_pay1 j hq hw h
  refine ((ha.addf (p.slice 0 0 slices_S16x2048_o0_0_S8x2048)).addf (p.slice 8 0 slices_S16x2048_o8_0_S8x2048)).congr fun a l _ _ => ?_
  simp only [Nat.zero_add]; ring

/-- The partial sums after `t` steps. -/
def part (f : ℕ → ℕ → ℝ) (u : ℕ → ℝ) (t p l : ℕ) : ℝ :=
  ∑ j ∈ range t, (quad (fun i => f i l * u i) j (0 + p) + quad (fun i => f i l * u i) j (8 + p))

/-- The left half's, -/
theorem reads_sumL (hK : Reads K k) (hU : Weak U fun i _ => u i) (hu : RowsOk 4096 k u) : ∀ t, t ≤ 64 → Reads (sumL K U t) (part (fun i l => k i (0 + l)) u t)
  | 0, _ => (Reads.broadcast (m := 8) (n := 2048) (c := Ideal.ofBits .f32 0x00000000#32) (r := 0) (by simp)).congr fun _ _ _ _ => by simp [part]
  | t + 1, ht => by
    have h := reads_pay26 (q := fun r => kL K (r4 ⟨t, ht⟩ r)) (w := fun r => uC U (r4 ⟨t, ht⟩ r)) (f := fun i l => k i (0 + l)) ⟨t, ht⟩
      (reads_sumL hK hU hu t (by omega)) (fun r => reads_kL hK _) (fun r => weak_uC hU _) fun i l hi hl e => (hu i hi).2 e (0 + l) (by omega)
    have e : sumL K U (t + 1) = accL K U ⟨t, ht⟩ (sumL K U t) := dif_pos (show t < 64 from ht)
    rw [e]
    exact h.congr fun p l _ _ => by simp only [part, sum_range_succ]

/-- and the right half's. -/
theorem reads_sumR (hK : Reads K k) (hU : Weak U fun i _ => u i) (hu : RowsOk 4096 k u) : ∀ t, t ≤ 64 → Reads (sumR K U t) (part (fun i l => k i (2048 + l)) u t)
  | 0, _ => (Reads.broadcast (m := 8) (n := 2048) (c := Ideal.ofBits .f32 0x00000000#32) (r := 0) (by simp)).congr fun _ _ _ _ => by simp [part]
  | t + 1, ht => by
    have h := reads_pay26 (q := fun r => kR K (r4 ⟨t, ht⟩ r)) (w := fun r => uC U (r4 ⟨t, ht⟩ r)) (f := fun i l => k i (2048 + l)) ⟨t, ht⟩
      (reads_sumR hK hU hu t (by omega)) (fun r => reads_kR hK _) (fun r => weak_uC hU _) fun i l hi hl e => (hu i hi).2 e (2048 + l) (by omega)
    have e : sumR K U (t + 1) = accR K U ⟨t, ht⟩ (sumR K U t) := dif_pos (show t < 64 from ht)
    rw [e]
    exact h.congr fun p l _ _ => by simp only [part, sum_range_succ]

/-- The partial sums of all rows, summed, are the column's sum. -/
theorem sum_part (f : ℕ → ℕ → ℝ) (u : ℕ → ℝ) (l : ℕ) : ∑ p ∈ range 8, part f u 64 p l = ∑ i ∈ range 4096, f i l * u i :=
  sum_columns (fun i => f i l * u i) 64

/-- The reciprocals of the column sums. -/
theorem weak_pay29 {x y : FVec Ideal S8x2048 .f32} (hx : Reads x (part (fun i l => k i (0 + l)) u 64)) (hy : Reads y (part (fun i l => k i (2048 + l)) u 64)) :
    Weak (k0_pay29 x y) fun _ j => vOf 4096 k u j := by
  have sx := ((hx.sum_cols 0x00000000#32 reduces_S8x2048_S2048 (.inl rfl) rfl).row shapeCasts_S2048_S1x2048).congr
    (g := fun _ j => ∑ i ∈ range 4096, k i j * u i) fun _ j _ _ => (sum_part _ u j).trans (by simp only [Nat.zero_add])
  have sy := ((hy.sum_cols 0x00000000#32 reduces_S8x2048_S2048 (.inl rfl) rfl).row shapeCasts_S2048_S1x2048).congr
    (g := fun _ j => ∑ i ∈ range 4096, k i (2048 + j) * u i) fun _ j _ _ => sum_part _ u j
  exact (Reads.broadcast (m := 1) (n := 4096) (c := Ideal.ofBits .f32 0x3F800000#32) (r := 1) (by simp)).inv (φ := .f32)
    (sx.beside sy concatenates_S1x2048_S1x2048_S1x4096_d1 rfl)

/-- The column update, rounded for the next row update, -/
theorem weak_vNext (hK : Reads K k) (hU : Weak U fun i _ => u i) (hu : RowsOk 4096 k u) :
    Weak (vNext K U) fun _ j => vOf 4096 k u j := by
  have h := weak_pay29 (reads_sumL hK hU hu 64 le_rfl) (reads_sumR hK hU hu 64 le_rfl)
  exact (((h.truncf bitsLt_bf16_f32).self shapeCasts_S1x4096_S1x4096).rows broadcasts_S1x4096_S16x4096).self shapeCasts_S16x4096_S16x4096
/-- and kept. -/
theorem weak_wNext (hK : Reads K k) (hU : Weak U fun i _ => u i) (hu : RowsOk 4096 k u) :
    Weak (wNext K U) fun _ j => vOf 4096 k u j := by
  have h := weak_pay29 (reads_sumL hK hU hu 64 le_rfl) (reads_sumR hK hU hu 64 le_rfl)
  exact ((h.self shapeCasts_S1x4096_S1x4096).rows broadcasts_S1x4096_S16x4096).self shapeCasts_S16x4096_S16x4096

/-! ## The whole -/

/-- The column scalings after `t` iterations. -/
theorem weak_vIter (hK : Reads K k) (hk : ∀ i j, 0 ≤ k i j) : ∀ t, Weak (vIter K t) fun _ j => vSeq 4096 k t j
  | 0 => ((Reads.broadcast (m := 16) (n := 4096) (c := Ideal.ofBits .bf16 0x3F80#16) (r := 1) (by simp)).self shapeCasts_S16x4096_S16x4096).weak
  | t + 1 => weak_vNext hK (weak_uFull hK (weak_vIter hK hk t) (vSeq_ok hk t)) (uOf_ok hk (vSeq_ok hk t))

variable {A : Vec Ideal S4096x4096 .f32}

/-- The kernel matrix is the input's exponential. -/
theorem reads_kFull (hA : Holds A fun i j x => Ideal.exp x = ((k i j : ℝ) : EReal)) : Reads (kFull A) k := fun i j => by
  have hw : Holds (rowsOf A (stripOf i)) fun p l x => Ideal.exp x = ((k (256 * (stripOf i).val + p) (0 + l) : ℝ) : EReal) := hA.window _ _ _
  have hs : Reads (exp (F := Ideal) (φ := .f32) (shapeCast S256x4096 (shapeCast S1x256x4096 (rowsOf A (stripOf i)) casts3) shapeCasts_S1x256x4096_S256x4096))
      fun p l => k (256 * (stripOf i).val + p) (0 + l) := fun p l => by
    show Ideal.exp _ = _
    rw [shapeCast_1ab_ab_apply _ _ p l, shapeCast_ab_1ab_apply _ casts3 0 p l]
    exact hw p l
  refine ((hs.truncf bitsLt_bf16_f32).self shapeCasts_S256x4096_S256x4096 (⟨i.val % 256, Nat.mod_lt _ (by decide)⟩ : Fin 256) j).trans ?_
  show ((k (256 * (i.val / 256) + i.val % 256) (0 + j.val) : ℝ) : EReal) = _
  rw [Nat.div_add_mod, Nat.zero_add]

/-- The result of one launch. -/
theorem reads_sinkhorn (hk : ∀ i j, 0 ≤ k i j) (hA : Holds A fun i j x => Ideal.exp x = ((k i j : ℝ) : EReal)) :
    Reads (sinkhorn A) (iterN 4096 k 10) := fun i j => by
  have hK := reads_kFull hA
  have hv := vSeq_ok (n := 4096) hk 9
  have hu := uOf_ok hk hv
  have hU : Weak (uFin (kFull A)) fun i _ => uOf 4096 k (vSeq 4096 k 9) i := weak_uFull hK (weak_vIter hK hk 9) hv
  have hW := weak_wNext hK hU hu
  let p : Fin 256 := ⟨i.val % 256, Nat.mod_lt _ (by decide)⟩
  let r : Fin 16 := ⟨p.val % 16, Nat.mod_lt _ (by decide)⟩
  let z : Fin 256 := c16 (stripOf i) (piece p)
  have hz' : ∀ a, a < 16 → 16 * z.val + a < 4096 := fun a ha => by have := z.isLt; omega
  have ho := ((Reads.mulWeak (φ := .bf16) (reads_kChunk hK z) ((weak_uC hU z).columns (by decide) broadcasts_S16x1_S16x4096)
    fun a l ha hl e => (hu _ (hz' a ha)).2 e (0 + l) (by omega)).extf bitsLt_bf16_f32).mulWeak hW
      (fun a l ha hl e => by
        have := (vOf_ok hk hu l hl).2 e (16 * z.val + a) (hz' a ha)
        beta_reduce
        rw [Nat.zero_add, this, zero_mul]) r j
  refine Eq.trans ?_ (ho.trans ?_)
  · rfl
  · have hz : 16 * z.val + r.val = i.val := by
      show 16 * (16 * (i.val / 256) + i.val % 256 / 16) + i.val % 256 % 16 = i.val
      omega
    beta_reduce
    rw [hz, Nat.zero_add, iterN_succ hk 9 _ _ i.isLt j.isLt]
    rfl

end Cert.Proof.Sinkhorn

end
-- ==== Proof.RefValue.lean ====
/-
  What the reference computes, over the extended reals: ten normalisations of its input by rows and by columns. Where the input lies
  below plus infinity, the exponential of each normalised matrix is that of the matrix before it, divided by the sums of its rows or
  columns. The maximum that a normalisation subtracts before its exponentials cancels; a row or column of nothing but minus infinity
  stays one.
-/
module

public import proofs.«01_k».proof.Proof.Reads
public import proofs.«01_k».proof.Proof.Gen.ReferenceIdeal.Run

@[expose] public section

set_option maxRecDepth 16384

noncomputable section

namespace Cert.Proof.Scale

open Idealize.ShloMosaic Idealize.ShloMosaic.ValueIdx
open Finset

variable {m n : ℕ}

/-- The word of minus infinity. -/
theorem ofBits_bot : Ideal.ofBits .f32 0xFF800000#32 = ⊥ := by simp [Ideal.ofBits, Ideal.ieee]

/-- The matrix's elements lie below plus infinity and have the exponentials `e`. -/
def Logs (X : (⟨2, ![m, n]⟩ : Shape).Idx → EReal) (e : ℕ → ℕ → ℝ) : Prop := Holds X fun i j x => x < ⊤ ∧ Ideal.exp x = ((e i j : ℝ) : EReal)

/-! ## One row or column -/

/-- The greatest of some numbers. -/
def greatest (g : Fin n → EReal) : EReal := (Finset.univ : Finset (Fin n)).fold max ⊥ g
/-- A number less the logarithm of the sum of exponentials, the greatest subtracted first and added last. -/
def normed (g : Fin n → EReal) (x : EReal) : EReal := x - (Ideal.log (∑ l, Ideal.exp (g l - greatest g)) + greatest g)

/-- The exponential of a number below plus infinity, a real number subtracted. -/
theorem exp_sub_real {x : EReal} {e : ℝ} (hx : x < ⊤) (h : Ideal.exp x = (e : EReal)) (c : ℝ) :
    x - (c : EReal) < ⊤ ∧ Ideal.exp (x - (c : EReal)) = ((e * Real.exp (-c) : ℝ) : EReal) := by
  induction x with
  | top => exact absurd hx (lt_irrefl _)
  | bot =>
    have e0 : (0 : ℝ) = e := EReal.coe_eq_coe_iff.mp h
    rw [EReal.bot_sub, ← e0, zero_mul]
    exact ⟨bot_lt_top, rfl⟩
  | coe x =>
    have e0 : Real.exp x = e := EReal.coe_eq_coe_iff.mp h
    rw [← EReal.coe_sub, ← e0, ← Real.exp_add, ← sub_eq_add_neg]
    exact ⟨EReal.coe_lt_top _, rfl⟩

/-- The exponential of a normalised number is the number's divided by the sum of all. -/
theorem normed_spec {g : Fin n → EReal} {e : ℕ → ℝ} (hg : ∀ l, g l < ⊤ ∧ Ideal.exp (g l) = ((e l.val : ℝ) : EReal)) (q : Fin n) :
    normed g (g q) < ⊤ ∧ Ideal.exp (normed g (g q)) = ((e q.val / ∑ l ∈ range n, e l : ℝ) : EReal) := by
  by_cases hb : g q = ⊥
  · have h := (hg q).2
    rw [hb] at h
    have e0 : (0 : ℝ) = e q.val := EReal.coe_eq_coe_iff.mp h
    rw [normed, hb, EReal.bot_sub, ← e0, zero_div]
    exact ⟨bot_lt_top, rfl⟩
  · have ht : greatest g < ⊤ := (Finset.fold_max_lt _).mpr ⟨bot_lt_top, fun l _ => (hg l).1⟩
    have hl : ⊥ < greatest g := (Finset.lt_fold_max _).mpr (Or.inr ⟨q, Finset.mem_univ _, bot_lt_iff_ne_bot.mpr hb⟩)
    obtain ⟨M, hM⟩ : ∃ M : ℝ, greatest g = (M : EReal) := ⟨_, (EReal.coe_toReal ht.ne hl.ne').symm⟩
    have hnn : ∀ l : Fin n, 0 ≤ e l.val := fun l => by
      have h := hg l
      revert h
      induction g l with
      | top => exact fun h => absurd h.1 (lt_irrefl _)
      | bot => exact fun h => (EReal.coe_eq_coe_iff.mp (h.2 : ((0 : ℝ) : EReal) = _)).le
      | coe x => exact fun h => (EReal.coe_eq_coe_iff.mp (h.2 : ((Real.exp x : ℝ) : EReal) = _)) ▸ (Real.exp_pos x).le
    have hpos : 0 < e q.val := by
      refine lt_of_le_of_ne (hnn q) fun e0 => hb ?_
      have h := hg q
      rw [← e0] at h
      revert h
      induction g q with
      | top => exact fun h => absurd h.1 (lt_irrefl _)
      | bot => exact fun _ => rfl
      | coe x => exact fun h => absurd (EReal.coe_eq_coe_iff.mp (h.2 : ((Real.exp x : ℝ) : EReal) = _)) (Real.exp_pos x).ne'
    have hS : 0 < ∑ l ∈ range n, e l := sum_pos' (fun l hl => hnn ⟨l, mem_range.mp hl⟩) ⟨q.val, mem_range.mpr q.isLt, hpos⟩
    have hs : ∑ l, Ideal.exp (g l - greatest g) = (((∑ l ∈ range n, e l) * Real.exp (-M) : ℝ) : EReal) := by
      rw [sum_mul, ← coe_sum_range, hM]
      exact Finset.sum_congr rfl fun l _ => (exp_sub_real (hg l).1 (hg l).2 M).2
    have hn : normed g (g q) = g q - ((Real.log (∑ l ∈ range n, e l) : ℝ) : EReal) := by
      rw [normed, hs, hM, Ideal.log_coe, if_neg (mul_pos hS (Real.exp_pos _)).not_ge, ← EReal.coe_add,
        Real.log_mul hS.ne' (Real.exp_pos _).ne', Real.log_exp, neg_add_cancel_right]
    have h := exp_sub_real (hg q).1 (hg q).2 (Real.log (∑ l ∈ range n, e l))
    rw [Real.exp_neg, Real.exp_log hS, ← div_eq_mul_inv] at h
    rw [hn]
    exact h

/-! ## The host's operations -/

/-- A vector made a column, -/
theorem hostColumn_apply (x : (⟨1, ![m]⟩ : Shape).Idx → EReal) (hm : m ≠ 1)
    (h : (⟨1, ![m]⟩ : Shape).BroadcastsInDim ⟨2, ![m, 1]⟩ ![0]) (i : Fin m) (j : Fin 1) : broadcastInDim ⟨2, ![m, 1]⟩ ![0] h x (ix2 i j) = x (ix1 i) :=
  broadcastInDim_apply ![0] h x (ix2 i j) (ix1 i) fun ax => by
    match ax with
    | ⟨0, _⟩ => exact (if_neg hm).symm
/-- a row; -/
theorem hostRow_apply (x : (⟨1, ![n]⟩ : Shape).Idx → EReal) (hn : n ≠ 1)
    (h : (⟨1, ![n]⟩ : Shape).BroadcastsInDim ⟨2, ![1, n]⟩ ![1]) (i : Fin 1) (j : Fin n) : broadcastInDim ⟨2, ![1, n]⟩ ![1] h x (ix2 i j) = x (ix1 j) :=
  broadcastInDim_apply ![1] h x (ix2 i j) (ix1 j) fun ax => by
    match ax with
    | ⟨0, _⟩ => exact (if_neg hn).symm
/-- a column repeated, -/
theorem hostColumns_apply (X : (⟨2, ![m, 1]⟩ : Shape).Idx → EReal) (hm : m ≠ 1)
    (h : (⟨2, ![m, 1]⟩ : Shape).BroadcastsInDim ⟨2, ![m, n]⟩ ![0, 1]) (i : Fin m) (j : Fin n) :
    broadcastInDim ⟨2, ![m, n]⟩ ![0, 1] h X (ix2 i j) = X (ix2 i (0 : Fin 1)) :=
  broadcastInDim_apply ![0, 1] h X (ix2 i j) (ix2 i (0 : Fin 1)) fun ax => by
    match ax with
    | ⟨0, _⟩ => exact (if_neg hm).symm
    | ⟨1, _⟩ => exact (if_pos rfl).symm
/-- a row repeated. -/
theorem hostRows_apply (X : (⟨2, ![1, n]⟩ : Shape).Idx → EReal) (hn : n ≠ 1)
    (h : (⟨2, ![1, n]⟩ : Shape).BroadcastsInDim ⟨2, ![m, n]⟩ ![0, 1]) (i : Fin m) (j : Fin n) :
    broadcastInDim ⟨2, ![m, n]⟩ ![0, 1] h X (ix2 i j) = X (ix2 (0 : Fin 1) j) :=
  broadcastInDim_apply ![0, 1] h X (ix2 i j) (ix2 (0 : Fin 1) j) fun ax => by
    match ax with
    | ⟨0, _⟩ => exact (if_pos rfl).symm
    | ⟨1, _⟩ => exact (if_neg hn).symm

/-- An exponential, -/
theorem hostExp_apply (X : FVec Ideal ⟨2, ![m, n]⟩ .f32) (i : Fin m) (j : Fin n) : Host.exp X (ix2 i j) = Ideal.exp (X (ix2 i j)) := rfl
/-- and a logarithm. -/
theorem hostLog_apply (X : FVec Ideal ⟨2, ![m, n]⟩ .f32) (i : Fin m) (j : Fin n) : Host.log X (ix2 i j) = Ideal.log (X (ix2 i j)) := rfl

/-- The greatest of a row, -/
theorem hostMax_row (X : FVec Ideal ⟨2, ![m, n]⟩ .f32) (h' : (⟨2, ![m, n]⟩ : Shape).ReducesTo [1] ⟨1, ![m]⟩)
    (h : (⟨2, ![m, n]⟩ : Shape).Reduces [1] ⟨1, ![m]⟩) (hu : 0 < (⟨0, ![]⟩ : Shape).numel) (i : Fin m) :
    Host.reduce (FloatOps.maximumf (F := Ideal) (φ := .f32)) X (constant (F := Ideal) ⟨0, ![]⟩ .f32 0xFF800000#32) h' hu (ix1 i)
      = greatest fun l : Fin n => X (ix2 i l) := by
  rw [Host.reduce_eq_fold_single _ _ _ h' h, constant_apply, ofBits_bot]
  exact congrArg greatest (funext fun k : Fin n => congrArg X (eq_ix2 _))
/-- of a column, -/
theorem hostMax_col (X : FVec Ideal ⟨2, ![m, n]⟩ .f32) (h' : (⟨2, ![m, n]⟩ : Shape).ReducesTo [0] ⟨1, ![n]⟩)
    (h : (⟨2, ![m, n]⟩ : Shape).Reduces [0] ⟨1, ![n]⟩) (hu : 0 < (⟨0, ![]⟩ : Shape).numel) (j : Fin n) :
    Host.reduce (FloatOps.maximumf (F := Ideal) (φ := .f32)) X (constant (F := Ideal) ⟨0, ![]⟩ .f32 0xFF800000#32) h' hu (ix1 j)
      = greatest fun l : Fin m => X (ix2 l j) := by
  rw [Host.reduce_eq_fold_single _ _ _ h' h, constant_apply, ofBits_bot]
  exact congrArg greatest (funext fun k : Fin m => congrArg X (eq_ix2 _))
/-- the sum of a row, -/
theorem hostSum_row (X : FVec Ideal ⟨2, ![m, n]⟩ .f32) (h' : (⟨2, ![m, n]⟩ : Shape).ReducesTo [1] ⟨1, ![m]⟩)
    (h : (⟨2, ![m, n]⟩ : Shape).Reduces [1] ⟨1, ![m]⟩) (hu : 0 < (⟨0, ![]⟩ : Shape).numel) (i : Fin m) :
    Host.reduceAdd X (constant (F := Ideal) ⟨0, ![]⟩ .f32 0x00000000#32) h' hu (ix1 i) = ∑ l : Fin n, X (ix2 i l) := by
  rw [hostReduceAdd_apply, Ideal.hostReduceAdd_single h' h, constant_apply, Ideal.ofBits_zero_f32, zero_add]
  exact Finset.sum_congr rfl fun k _ => congrArg X (eq_ix2 _)
/-- and of a column. -/
theorem hostSum_col (X : FVec Ideal ⟨2, ![m, n]⟩ .f32) (h' : (⟨2, ![m, n]⟩ : Shape).ReducesTo [0] ⟨1, ![n]⟩)
    (h : (⟨2, ![m, n]⟩ : Shape).Reduces [0] ⟨1, ![n]⟩) (hu : 0 < (⟨0, ![]⟩ : Shape).numel) (j : Fin n) :
    Host.reduceAdd X (constant (F := Ideal) ⟨0, ![]⟩ .f32 0x00000000#32) h' hu (ix1 j) = ∑ l : Fin m, X (ix2 l j) := by
  rw [hostReduceAdd_apply, Ideal.hostReduceAdd_single h' h, constant_apply, Ideal.ofBits_zero_f32, zero_add]
  exact Finset.sum_congr rfl fun k _ => congrArg X (eq_ix2 _)

end Cert.Proof.Scale

namespace Cert.Proof.Ref

open Cert.ReferenceIdeal Cert.ReferenceIdeal.Gen Cert.ReferenceIdeal.Value
open Idealize.ShloMosaic Idealize.ShloMosaic.ValueIdx
open Cert.Proof.Scale
open Finset

variable {F : FTy → Type} [FloatOps F]

/-! ## One normalisation -/

/-- The greatest of each row, in a column. -/
def rowMax (x : FVec F S4096x4096 .f32) : FVec F S4096x1 .f32 :=
  broadcastInDim S4096x1 ![0] bcast_S4096_S4096x1_0 (Host.reduce FloatOps.maximumf x (constant S_ .f32 0xFF800000#32) reducesTo_S4096x4096_S4096_d1 h_S_)
/-- The greatest of each column, in a row. -/
def colMax (x : FVec F S4096x4096 .f32) : FVec F S1x4096 .f32 :=
  broadcastInDim S1x4096 ![1] bcast_S4096_S1x4096_1 (Host.reduce FloatOps.maximumf x (constant S_ .f32 0xFF800000#32) reducesTo_S4096x4096_S4096_d0 h_S_)
/-- A matrix of logarithms normalised by rows, -/
def rowStep (x : FVec F S4096x4096 .f32) : FVec F S4096x4096 .f32 :=
  subf x (broadcastInDim S4096x4096 ![0, 1] bcast_S4096x1_S4096x4096_0_1 (addf (Host.log (broadcastInDim S4096x1 ![0] bcast_S4096_S4096x1_0
    (Host.reduceAdd (Host.exp (subf x (broadcastInDim S4096x4096 ![0, 1] bcast_S4096x1_S4096x4096_0_1 (rowMax x))))
      (constant S_ .f32 0x00000000#32) reducesTo_S4096x4096_S4096_d1 h_S_))) (rowMax x)))
/-- by columns, -/
def colStep (x : FVec F S4096x4096 .f32) : FVec F S4096x4096 .f32 :=
  subf x (broadcastInDim S4096x4096 ![0, 1] bcast_S1x4096_S4096x4096_0_1 (addf (Host.log (broadcastInDim S1x4096 ![1] bcast_S4096_S1x4096_1
    (Host.reduceAdd (Host.exp (subf x (broadcastInDim S4096x4096 ![0, 1] bcast_S1x4096_S4096x4096_0_1 (colMax x))))
      (constant S_ .f32 0x00000000#32) reducesTo_S4096x4096_S4096_d0 h_S_))) (colMax x)))
/-- and by both, `t` times. -/
def steps (x : FVec F S4096x4096 .f32) : ℕ → FVec F S4096x4096 .f32
  | 0 => x
  | t + 1 => colStep (rowStep (steps x t))
/-- The input divided by one. -/
def start (A : FVec F S4096x4096 .f32) : FVec F S4096x4096 .f32 :=
  Host.divf A (broadcastInDim S4096x4096 ![] bcast_S_S4096x4096 (constant S_ .f32 0x3F800000#32))
/-- What the reference returns for `A`. -/
def result (A : FVec F S4096x4096 .f32) : FVec F S4096x4096 .f32 := Host.exp (steps (start A) 10)

variable {x A : FVec Ideal S4096x4096 .f32} {e : ℕ → ℕ → ℝ}

/-- The column of greatest numbers, -/
theorem rowMax_apply (i : Fin 4096) (j : Fin 1) : rowMax x (ix2 i j) = greatest fun l : Fin 4096 => x (ix2 i l) :=
  (hostColumn_apply _ (by decide) bcast_S4096_S4096x1_0 i j).trans (hostMax_row x reducesTo_S4096x4096_S4096_d1 (by decide) h_S_ i)
/-- and the row of them. -/
theorem colMax_apply (i : Fin 1) (j : Fin 4096) : colMax x (ix2 i j) = greatest fun l : Fin 4096 => x (ix2 l j) :=
  (hostRow_apply _ (by decide) bcast_S4096_S1x4096_1 i j).trans (hostMax_col x reducesTo_S4096x4096_S4096_d0 (by decide) h_S_ j)

/-- A row normalisation, element by element. -/
theorem rowStep_apply (i j : Fin 4096) : rowStep x (ix2 i j) = normed (fun l : Fin 4096 => x (ix2 i l)) (x (ix2 i j)) := by
  rw [rowStep, ValueIdx.subf_apply, hostColumns_apply _ (by decide), ValueIdx.addf_apply, hostLog_apply, hostColumn_apply _ (by decide),
    hostSum_row _ _ (by decide), rowMax_apply, normed]
  refine congrArg (fun s => x (ix2 i j) - (Ideal.log s + _)) (Finset.sum_congr rfl fun l _ => ?_)
  rw [hostExp_apply, ValueIdx.subf_apply, hostColumns_apply _ (by decide), rowMax_apply]
/-- A column normalisation. -/
theorem colStep_apply (i j : Fin 4096) : colStep x (ix2 i j) = normed (fun l : Fin 4096 => x (ix2 l j)) (x (ix2 i j)) := by
  rw [colStep, ValueIdx.subf_apply, hostRows_apply _ (by decide), ValueIdx.addf_apply, hostLog_apply, hostRow_apply _ (by decide),
    hostSum_col _ _ (by decide), colMax_apply, normed]
  refine congrArg (fun s => x (ix2 i j) - (Ideal.log s + _)) (Finset.sum_congr rfl fun l _ => ?_)
  rw [hostExp_apply, ValueIdx.subf_apply, hostRows_apply _ (by decide), colMax_apply]

/-- A row normalisation divides the exponentials by their row's sum, -/
theorem logs_rowStep (hx : Logs x e) : Logs (rowStep x) (rowN 4096 e) := fun i j => by
  rw [rowStep_apply]
  exact normed_spec (e := fun l => e i.val l) (fun l => hx i l) j
/-- a column normalisation by their column's. -/
theorem logs_colStep (hx : Logs x e) : Logs (colStep x) (colN 4096 e) := fun i j => by
  rw [colStep_apply]
  exact normed_spec (g := fun l : Fin 4096 => x (ix2 l j)) (e := fun l => e l j.val) (fun l => hx l j) i
/-- All of them do both in turn. -/
theorem logs_steps (hx : Logs x e) : ∀ t, Logs (steps x t) (iterN 4096 e t)
  | 0 => hx
  | t + 1 => logs_colStep (logs_rowStep (logs_steps hx t))

/-- The reference's result. -/
theorem reads_result (hA : Logs A e) : Reads (result A) (iterN 4096 e 10) := by
  have hs : Logs (start A) e := fun i j => by
    have h1 : start A (ix2 i j) = A (ix2 i j) := by
      show Ideal.div (A (ix2 i j)) (broadcastInDim S4096x4096 ![] bcast_S_S4096x4096 (constant (F := Ideal) S_ .f32 0x3F800000#32) (ix2 i j)) = _
      rw [broadcastInDim_scalar_apply, constant_apply, Ideal.ofBits_one_f32, Ideal.div, if_neg one_ne_zero, inv_one, mul_one]
    rw [h1]
    exact hA i j
  exact fun i j => (logs_steps hs 10 i j).2

/-! ## The program's terms -/

variable (V : Valuation τ sig (Elt F))

/-- The first result's term is that result of the first argument, -/
theorem term0 : Host.exp (subf (res_main_v210 V) (broadcastInDim S4096x4096 ![0, 1] bcast_S1x4096_S4096x4096_0_1 (addf (Host.log (broadcastInDim S1x4096 ![1]
    bcast_S4096_S1x4096_1 (Host.reduceAdd (Host.exp (subf (res_main_v210 V) (broadcastInDim S4096x4096 ![0, 1] bcast_S1x4096_S4096x4096_0_1 (res_main_v212 V))))
    (constant S_ .f32 0x00000000#32) reducesTo_S4096x4096_S4096_d0 h_S_))) (res_main_v212 V))))
    = result (F := F) (V (Proc.devRef .tc main_arg0)) := by
  have e0 : res_main_v1 V = steps (start (V (Proc.devRef .tc main_arg0))) 0 := rfl
  have s1 : res_main_v23 V = colStep (rowStep (res_main_v1 V)) := rfl
  have s2 : res_main_v45 V = colStep (rowStep (res_main_v23 V)) := rfl
  have s3 : res_main_v67 V = colStep (rowStep (res_main_v45 V)) := rfl
  have s4 : res_main_v89 V = colStep (rowStep (res_main_v67 V)) := rfl
  have s5 : res_main_v111 V = colStep (rowStep (res_main_v89 V)) := rfl
  have s6 : res_main_v133 V = colStep (rowStep (res_main_v111 V)) := rfl
  have s7 : res_main_v155 V = colStep (rowStep (res_main_v133 V)) := rfl
  have s8 : res_main_v177 V = colStep (rowStep (res_main_v155 V)) := rfl
  have s9 : res_main_v199 V = colStep (rowStep (res_main_v177 V)) := rfl
  have s10 : res_main_v210 V = rowStep (res_main_v199 V) := rfl
  have e9 : res_main_v199 V = steps (start (V (Proc.devRef .tc main_arg0))) 9 := by rw [s9, s8, s7, s6, s5, s4, s3, s2, s1, e0]; rfl
  show Host.exp (colStep (res_main_v210 V)) = _
  rw [s10, e9]; rfl
/-- and the second's of the second. -/
theorem term1 : Host.exp (subf (res_main_v433 V) (broadcastInDim S4096x4096 ![0, 1] bcast_S1x4096_S4096x4096_0_1 (addf (Host.log (broadcastInDim S1x4096 ![1]
    bcast_S4096_S1x4096_1 (Host.reduceAdd (Host.exp (subf (res_main_v433 V) (broadcastInDim S4096x4096 ![0, 1] bcast_S1x4096_S4096x4096_0_1 (res_main_v435 V))))
    (constant S_ .f32 0x00000000#32) reducesTo_S4096x4096_S4096_d0 h_S_))) (res_main_v435 V))))
    = result (F := F) (V (Proc.devRef .tc main_arg1)) := by
  have e0 : res_main_v224 V = steps (start (V (Proc.devRef .tc main_arg1))) 0 := rfl
  have s1 : res_main_v246 V = colStep (rowStep (res_main_v224 V)) := rfl
  have s2 : res_main_v268 V = colStep (rowStep (res_main_v246 V)) := rfl
  have s3 : res_main_v290 V = colStep (rowStep (res_main_v268 V)) := rfl
  have s4 : res_main_v312 V = colStep (rowStep (res_main_v290 V)) := rfl
  have s5 : res_main_v334 V = colStep (rowStep (res_main_v312 V)) := rfl
  have s6 : res_main_v356 V = colStep (rowStep (res_main_v334 V)) := rfl
  have s7 : res_main_v378 V = colStep (rowStep (res_main_v356 V)) := rfl
  have s8 : res_main_v400 V = colStep (rowStep (res_main_v378 V)) := rfl
  have s9 : res_main_v422 V = colStep (rowStep (res_main_v400 V)) := rfl
  have s10 : res_main_v433 V = rowStep (res_main_v422 V) := rfl
  have e9 : res_main_v422 V = steps (start (V (Proc.devRef .tc main_arg1))) 9 := by rw [s9, s8, s7, s6, s5, s4, s3, s2, s1, e0]; rfl
  show Host.exp (colStep (res_main_v433 V)) = _
  rw [s10, e9]; rfl

end Cert.Proof.Ref

end
-- ==== Proof.Algebraic.lean ====
/-
  The value: on inputs below plus infinity the kernel and the reference leave the same two matrices.
-/
module

public import proofs.«01_k».proof.Defs
public import proofs.«01_k».proof.Proof.Run
public import proofs.«01_k».proof.Proof.Value
public import proofs.«01_k».proof.Proof.RefValue
public import Idealize.ShloMosaic.Lib.ReduceAll

@[expose] public section

set_option maxRecDepth 16384

noncomputable section

namespace Cert.Proof.Algebraic

open Idealize.ShloMosaic Idealize.ShloMosaic.TcCoe Idealize.ShloMosaic.ValueIdx Idealize.SL.Sem
open Cert.Proof.Scale

/-! ## What the precondition says -/

/-- The shape conditions of the predicate `below_infinity`. -/
instance preFacts : Cert.Pre_below_infinity.Facts where
  bcast_S_S4096x4096 := by decide
  reducesTo_S4096x4096_S_d0_1 := by decide
  h_S_ := by decide

/-- The word of plus infinity. -/
theorem ofBits_top : Ideal.ofBits .f32 0x7F800000#32 = ⊤ := by simp [Ideal.ofBits, Ideal.ieee]

/-- What a comparison with plus infinity says. -/
theorem lt_top_of_cmp (x : EReal) (h : Ideal.cmp .olt x ⊤ = 1#1) : x < ⊤ := by
  by_contra hn
  simp [Ideal.cmp, hn] at h

/-- The exponential of a number below plus infinity is a nonnegative real number. -/
theorem exp_real {x : EReal} (h : x < ⊤) : 0 ≤ (Ideal.exp x).toReal ∧ Ideal.exp x = (((Ideal.exp x).toReal : ℝ) : EReal) := by
  induction x with
  | top => exact absurd h (lt_irrefl _)
  | bot => exact ⟨le_refl (0 : ℝ), rfl⟩
  | coe x => exact ⟨(Real.exp_pos x).le, rfl⟩

/-- The predicate's half for one argument: the exponentials are nonnegative real numbers. -/
theorem logs_of_half (A : FVec Ideal ⟨2, ![4096, 4096]⟩ .f32) (j : (⟨0, ![]⟩ : Shape).Idx)
    (h : Host.reduce IntOp.andi (cmpf .olt A (broadcastInDim ⟨2, ![4096, 4096]⟩ ![] preFacts.bcast_S_S4096x4096 (constant (F := Ideal) ⟨0, ![]⟩ .f32 0x7F800000#32)))
      (constantI ⟨0, ![]⟩ 1 1#1) preFacts.reducesTo_S4096x4096_S_d0_1 preFacts.h_S_ j = 1#1) :
    ∃ k : ℕ → ℕ → ℝ, (∀ i j, 0 ≤ k i j) ∧ Logs A k := by
  haveI : Subsingleton (⟨0, ![]⟩ : Shape).Idx := ⟨fun a b => funext fun i => i.elim0⟩
  have hlt : ∀ i j' : Fin 4096, A (ix2 i j') < ⊤ := fun i j' => by
    have e := Host.reduce_andi_all _ _ _ _ j h (ix2 i j')
    have e' : Ideal.cmp .olt (A (ix2 i j')) (Ideal.ofBits .f32 0x7F800000#32) = 1#1 := by
      rw [← e]; rfl
    rw [ofBits_top] at e'
    exact lt_top_of_cmp _ e'
  refine ⟨fun i j => if h : i < 4096 ∧ j < 4096 then (Ideal.exp (A (ix2 ⟨i, h.1⟩ ⟨j, h.2⟩))).toReal else 0, fun i j' => ?_, fun i j' => ⟨hlt i j', ?_⟩⟩
  · beta_reduce
    split
    · exact (exp_real (hlt _ _)).1
    · exact le_refl _
  · beta_reduce
    rw [dif_pos ⟨i.isLt, j'.isLt⟩]
    exact (exp_real (hlt _ _)).2

/-- The predicate: so it is of both arguments. -/
theorem logs_of_below (A B : FVec Ideal ⟨2, ![4096, 4096]⟩ .f32) (h : Cert.Pre_below_infinity.fn (F := Ideal) A B = fun _ => 1#1) :
    (∃ k : ℕ → ℕ → ℝ, (∀ i j, 0 ≤ k i j) ∧ Logs A k) ∧ ∃ k : ℕ → ℕ → ℝ, (∀ i j, 0 ≤ k i j) ∧ Logs B k := by
  have e := congrFun h ix0
  dsimp only [Cert.Pre_below_infinity.fn] at e
  have e' := IntOp.andi_eq_one.mp e
  exact ⟨logs_of_half A ix0 e'.1, logs_of_half B ix0 e'.2⟩

/-! ## The claim -/

/-- On a matrix below plus infinity the kernel and the reference compute the same. -/
theorem sinkhorn_eq_result {A : FVec Ideal ⟨2, ![4096, 4096]⟩ .f32} (h : ∃ k : ℕ → ℕ → ℝ, (∀ i j, 0 ≤ k i j) ∧ Logs A k) :
    Sinkhorn.sinkhorn (F := Ideal) A = Ref.result (F := Ideal) A := by
  obtain ⟨k, hk, hA⟩ := h
  exact (Sinkhorn.reads_sinkhorn hk fun i j => (hA i j).2).ext (Ref.reads_result hA)

/-- Both programs leave, in each result, what the kernel's term says, and their arguments as launched. -/
theorem algebraic : Cert.algebraic_KernelIdeal_ReferenceIdeal_pre_below_infinity := by
  intro m g m' g' hpre heq
  refine ⟨fun c => Sinkhorn.sinkhorn (F := Ideal) (m ((c.tc : Thread _ _).loc Cert.KernelIdeal.main_arg0)),
    fun c => Sinkhorn.sinkhorn (F := Ideal) (m ((c.tc : Thread _ _).loc Cert.KernelIdeal.main_arg1)), ?_, ?_⟩
  · exact (θ_run Cert.KernelIdeal.defs _ _).mono (fun _ h c => ⟨(h.1 c).2.2.1, (h.1 c).2.2.2, (h.1 c).1, (h.1 c).2.1⟩)
      (Sinkhorn.run_main (F := Ideal) m g)
  · refine (θ_run Cert.ReferenceIdeal.defs _ _).mono (fun _ h c => ?_) (Cert.ReferenceIdeal.Value.run (F := Ideal) m' g')
    have hf := logs_of_below _ _ (hpre c)
    refine ⟨(h c).1.trans ?_, (h c).2.1.trans ?_, (h c).2.2.1, (h c).2.2.2⟩
    · refine (Ref.term0 _).trans (Eq.trans ?_ (sinkhorn_eq_result hf.1).symm)
      exact congrArg (Ref.result (F := Ideal)) (heq c).1
    · refine (Ref.term1 _).trans (Eq.trans ?_ (sinkhorn_eq_result hf.2).symm)
      exact congrArg (Ref.result (F := Ideal)) (heq c).2

end Cert.Proof.Algebraic

end
-- ==== Proof.lean ====
/-
  The proof of `Cert.Claim`: each program's run (Proof/Frames.lean) and, on inputs below plus infinity, the equality of their results
  (Proof/Algebraic.lean). No operation was rewritten, so the idealization's own claim is empty.
-/
module

public import proofs.«01_k».proof.Defs
public import proofs.«01_k».proof.Proof.Frames
public import proofs.«01_k».proof.Proof.Algebraic

@[expose] public section

noncomputable section

namespace Cert.Proof

/-- Every claim of this certificate. -/
theorem claim : Cert.Claim :=
  ⟨Cert.Kernel.Gen.facts, Cert.KernelIdeal.Gen.facts, Cert.ReferenceIdeal.Gen.facts, Algebraic.preFacts, Frames.kernel, Frames.kernelIdeal,
    fun m g _ => Frames.kernelIdeal m g trivial, Frames.referenceIdeal, fun m g _ => Frames.referenceIdeal m g trivial, trivial, Algebraic.algebraic⟩

end Cert.Proof

end
